-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  IdealRules.bf16_pair.Statement Cert.KernelIdeal.S512x128 Cert.KernelIdeal.S256x128

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quantise_QuantiseIdeal : Prop :=
  IdealRules.bf16_pair.Statement Cert.QuantiseIdeal.S128x128 Cert.QuantiseIdeal.S64x128

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v0_0) = v0 c
          ∧ r.2.mem ((c.tc : Thread Cert.QuantiseReferenceIdeal.nD Cert.QuantiseReferenceIdeal.τ).loc Cert.QuantiseReferenceIdeal.main_v0_1) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal_pre_pre (hKernelIdeal := hKernelIdeal) (hReferenceIdeal := hReferenceIdeal) (hPre_pre := hPre_pre)
    ∧ preserves_Quantise_QuantiseIdeal
    ∧ algebraic_QuantiseIdeal_QuantiseReferenceIdeal (hQuantiseIdeal := hQuantiseIdeal) (hQuantiseReferenceIdeal := hQuantiseReferenceIdeal)
-- ==== Pre_pre.lean ====
abbrev S4096x16384 : Shape := ⟨2, ![4096, 16384]⟩
abbrev S5120x16384 : Shape := ⟨2, ![5120, 16384]⟩
abbrev S5120x512 : Shape := ⟨2, ![5120, 512]⟩
abbrev S4096x5120 : Shape := ⟨2, ![4096, 5120]⟩
abbrev S4096x128 : Shape := ⟨2, ![4096, 128]⟩
abbrev S_ : Shape := ⟨0, ![]⟩
abbrev S4096x1 : Shape := ⟨2, ![4096, 1]⟩

class Facts : Prop where
  bcast_S_S5120x512 : S_.BroadcastsInDim S5120x512 (![] : Fin 0 → Fin S5120x512.rank)
  reducesTo_S5120x512_S_d0_1 : S5120x512.ReducesTo [0, 1] S_
  h_S_ : 0 < S_.numel
  slices_S4096x128_S4096x1_0_0 : S4096x128.Slices ![0, 0] S4096x1
  bcast_S4096x1_S4096x128_0_1 : S4096x1.BroadcastsInDim S4096x128 (![0, 1] : Fin 2 → Fin S4096x128.rank)
  reducesTo_S4096x128_S_d0_1 : S4096x128.ReducesTo [0, 1] S_

variable [Facts]

def fn {F : FTy → Type} [FloatOps F] (main_arg0 : FVec F S4096x16384 .fp8e4m3) (main_arg1 : FVec F S5120x16384 .fp8e4m3) (main_arg2 : IVec S5120x512 8) (main_arg3 : FVec F S4096x5120 .bf16) (main_arg4 : FVec F S4096x128 .f32) : IVec S_ 1 :=
  let main_c : IVec S_ 8 := constantI S_ 8 1#8
  let main_v0 : IVec S5120x512 8 := broadcastInDim S5120x512 ![] bcast_S_S5120x512 main_c
  let main_v1 : IVec S5120x512 1 := cmpi .uge main_arg2 main_v0
  let main_c_0 : IVec S_ 8 := constantI S_ 8 254#8
  let main_v2 : IVec S5120x512 8 := broadcastInDim S5120x512 ![] bcast_S_S5120x512 main_c_0
  let main_v3 : IVec S5120x512 1 := cmpi .ule main_arg2 main_v2
  let main_v4 : IVec S5120x512 1 := andi main_v1 main_v3
  let main_c_1 : IVec S_ 1 := constantI S_ 1 1#1
  let main_v5 : IVec S_ 1 := (fun x v => Host.reduce IntOp.andi x v reducesTo_S5120x512_S_d0_1 h_S_) main_v4 main_c_1
  let main_v6 : FVec F S4096x1 .f32 := (extractStridedSlice S4096x1 ![0, 0] · slices_S4096x128_S4096x1_0_0) main_arg4
  let main_v7 : FVec F S4096x128 .f32 := broadcastInDim S4096x128 ![0, 1] bcast_S4096x1_S4096x128_0_1 main_v6
  let main_v8 : IVec S4096x128 1 := cmpf .oeq main_arg4 main_v7
  let main_c_2 : IVec S_ 1 := constantI S_ 1 1#1
  let main_v9 : IVec S_ 1 := (fun x v => Host.reduce IntOp.andi x v reducesTo_S4096x128_S_d0_1 h_S_) main_v8 main_c_2
  let main_v10 : IVec S_ 1 := andi main_v5 main_v9
  main_v10
-- ==== Kernel.lean ====
abbrev S4096x16384 : Shape := ⟨2, ![4096, 16384]⟩
abbrev S5120x16384 : Shape := ⟨2, ![5120, 16384]⟩
abbrev S5120x512 : Shape := ⟨2, ![5120, 512]⟩
abbrev S4096x5120 : Shape := ⟨2, ![4096, 5120]⟩
abbrev S4096x128 : Shape := ⟨2, ![4096, 128]⟩
abbrev S4096x160 : Shape := ⟨2, ![4096, 160]⟩
abbrev S512x16384 : Shape := ⟨2, ![512, 16384]⟩
abbrev S512x512 : Shape := ⟨2, ![512, 512]⟩
abbrev S512x128 : Shape := ⟨2, ![512, 128]⟩
abbrev S512x160 : Shape := ⟨2, ![512, 160]⟩
abbrev S256x256 : Shape := ⟨2, ![256, 256]⟩
abbrev S512x128x1 : Shape := ⟨3, ![512, 128, 1]⟩
abbrev S512x1024 : Shape := ⟨2, ![512, 1024]⟩
abbrev S256x128 : Shape := ⟨2, ![256, 128]⟩
abbrev S256x128x1 : Shape := ⟨3, ![256, 128, 1]⟩
abbrev S512x32 : Shape := ⟨2, ![512, 32]⟩

abbrev nBuf : Space → Nat
  | .hbm => 8
  | .vmem => 19
  | .smem => 0
  | _ => 0

abbrev bufTy : (tb : Table) → Fin (tcTables nBuf tb) → BufTy
  | .hbm, ⟨0, _⟩ => ⟨S4096x16384, .fp8e4m3⟩
  | .hbm, ⟨1, _⟩ => ⟨S5120x16384, .fp8e4m3⟩
  | .hbm, ⟨2, _⟩ => ⟨S5120x512, .i8⟩
  | .hbm, ⟨3, _⟩ => ⟨S4096x5120, .bf16⟩
  | .hbm, ⟨4, _⟩ => ⟨S4096x128, .f32⟩
  | .hbm, ⟨5, _⟩ => ⟨S4096x5120, .bf16⟩
  | .hbm, ⟨6, _⟩ => ⟨S4096x5120, .fp8e4m3⟩
  | .hbm, ⟨7, _⟩ => ⟨S4096x160, .i8⟩
  | .local _ .vmem, ⟨0, _⟩ => ⟨S512x16384, .fp8e4m3⟩
  | .local _ .vmem, ⟨1, _⟩ => ⟨S512x16384, .fp8e4m3⟩
  | .local _ .vmem, ⟨2, _⟩ => ⟨S512x16384, .fp8e4m3⟩
  | .local _ .vmem, ⟨3, _⟩ => ⟨S512x16384, .fp8e4m3⟩
  | .local _ .vmem, ⟨4, _⟩ => ⟨S512x512, .i8⟩
  | .local _ .vmem, ⟨5, _⟩ => ⟨S512x512, .i8⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .fp8e4m3⟩
  | .local _ .vmem, ⟨13, _⟩ => ⟨S512x512, .fp8e4m3⟩
  | .local _ .vmem, ⟨14, _⟩ => ⟨S512x160, .i8⟩
  | .local _ .vmem, ⟨15, _⟩ => ⟨S512x160, .i8⟩
  | .local _ .vmem, ⟨16, _⟩ => ⟨S512x512, .bf16⟩
  | .local _ .vmem, ⟨17, _⟩ => ⟨S512x512, .f32⟩
  | .local _ .vmem, ⟨18, _⟩ => ⟨S256x256, .i32⟩
  | _, _ => ⟨S4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 10], ![false, false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c0_i32_249 : BitVec 32 := 0#32
  let v737 : BitVec 1 := Scalar.cmpi .sgt arg13 c0_i32_249
  let v738 : BitVec 32 := Scalar.extui v737
  let c0_i32_250 : BitVec 32 := 0#32
  let v739 : BitVec 1 := Scalar.cmpi .slt arg13 c0_i32_250
  let v740 : BitVec 32 := Scalar.extui v739
  let v741 : BitVec 32 := Scalar.subi v738 v740
  let c4_i32_248 : BitVec 32 := 4#32
  let c0_i32_251 : BitVec 32 := 0#32
  let v742 : BitVec 1 := Scalar.cmpi .sgt c4_i32_248 c0_i32_251
  let v743 : BitVec 32 := Scalar.extui v742
  let c0_i32_252 : BitVec 32 := 0#32
  let v744 : BitVec 1 := Scalar.cmpi .slt c4_i32_248 c0_i32_252
  let v745 : BitVec 32 := Scalar.extui v744
  let v746 : BitVec 32 := Scalar.subi v743 v745
  let v747 : BitVec 1 := Scalar.cmpi .ne v741 v746
  let v748 : BitVec 32 := Scalar.remsi arg13 c4_i32_248
  let c0_i32_253 : BitVec 32 := 0#32
  let v749 : BitVec 1 := Scalar.cmpi .ne v748 c0_i32_253
  let v750 : BitVec 1 := Scalar.andi v747 v749
  let v736 : BitVec 32 := Scalar.divsi arg13 c4_i32_248
  let c1_i32_254 : BitVec 32 := 1#32
  let v751 : BitVec 32 := Scalar.subi v736 c1_i32_254
  let v752 : BitVec 32 := Scalar.select v750 v751 v736
  let c128_i32_255 : BitVec 32 := 128#32
  let v753 : BitVec 32 := Scalar.muli v752 c128_i32_255
  v753
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v766 : BitVec 32 := Scalar.muli arg13 c1024_i32
  v766
def k0_off1 (k0_t1 : Fin k0_t1_loop.trips) : Fin 2 → Nat :=
  let c0_263 : Index := 0#32
  let c0_i32 : BitVec 32 := 0#32
  let c1_i32 : BitVec 32 := 1#32
  let arg13 : BitVec 32 := Scf.iv c0_i32 c1_i32 k0_t1
  let c0_i32_249 : BitVec 32 := 0#32
  let v737 : BitVec 1 := Scalar.cmpi .sgt arg13 c0_i32_249
  let v738 : BitVec 32 := Scalar.extui v737
  let c0_i32_250 : BitVec 32 := 0#32
  let v739 : BitVec 1 := Scalar.cmpi .slt arg13 c0_i32_250
  let v740 : BitVec 32 := Scalar.extui v739
  let v741 : BitVec 32 := Scalar.subi v738 v740
  let c4_i32_248 : BitVec 32 := 4#32
  let c0_i32_251 : BitVec 32 := 0#32
  let v742 : BitVec 1 := Scalar.cmpi .sgt c4_i32_248 c0_i32_251
  let v743 : BitVec 32 := Scalar.extui v742
  let c0_i32_252 : BitVec 32 := 0#32
  let v744 : BitVec 1 := Scalar.cmpi .slt c4_i32_248 c0_i32_252
  let v745 : BitVec 32 := Scalar.extui v744
  let v746 : BitVec 32 := Scalar.subi v743 v745
  let v747 : BitVec 1 := Scalar.cmpi .ne v741 v746
  let v748 : BitVec 32 := Scalar.remsi arg13 c4_i32_248
  let c0_i32_253 : BitVec 32 := 0#32
  let v749 : BitVec 1 := Scalar.cmpi .ne v748 c0_i32_253
  let v750 : BitVec 1 := Scalar.andi v747 v749
  let v736 : BitVec 32 := Scalar.divsi arg13 c4_i32_248
  let c1_i32_254 : BitVec 32 := 1#32
  let v751 : BitVec 32 := Scalar.subi v736 c1_i32_254
  let v752 : BitVec 32 := Scalar.select v750 v751 v736
  let c128_i32_255 : BitVec 32 := 128#32
  let v753 : BitVec 32 := Scalar.muli v752 c128_i32_255
  let v754 : BitVec 32 := v753
  let v768 : Index := Scalar.indexCast v754
  ![0, v768.toNat]
def k0_off2 (k0_t1 : Fin k0_t1_loop.trips) (c0_i32_268 : BitVec 32) : Fin 2 → Nat :=
  let c0_269 : Index := 0#32
  let c0_i32 : BitVec 32 := 0#32
  let c1_i32 : BitVec 32 := 1#32
  let arg13 : BitVec 32 := Scf.iv c0_i32 c1_i32 k0_t1
  let c1024_i32 : BitVec 32 := 1024#32
  let v766 : BitVec 32 := Scalar.muli arg13 c1024_i32
  let v767 : BitVec 32 := v766
  let v785 : BitVec 32 := Scalar.addi v767 c0_i32_268
  let v786 : Index := Scalar.indexCast v785
  ![0, v786.toNat]
def k0_off3 (k0_t1 : Fin k0_t1_loop.trips) : Fin 2 → Nat :=
  let c0_302 : Index := 0#32
  let c0_i32 : BitVec 32 := 0#32
  let c1_i32 : BitVec 32 := 1#32
  let arg13 : BitVec 32 := Scf.iv c0_i32 c1_i32 k0_t1
  let c1024_i32 : BitVec 32 := 1024#32
  let v766 : BitVec 32 := Scalar.muli arg13 c1024_i32
  let v767 : BitVec 32 := v766
  let v925 : Index := Scalar.indexCast v767
  ![0, v925.toNat]
def k0_cond3 (i : grid0.Coords) : BitVec 1 :=
  let arg1 : BitVec 32 := BitVec.ofNat 32 (i 1).val
  let c9_i32 : BitVec 32 := 9#32
  let v733 : BitVec 1 := Scalar.cmpi .eq arg1 c9_i32
  let v734 : BitVec 32 := Scalar.extui v733
  let c0_i32_247 : BitVec 32 := 0#32
  let v735 : BitVec 1 := Scalar.cmpi .ne v734 c0_i32_247
  v735

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x160 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F]
-- ==== ReferenceIdeal.lean ====
abbrev S4096x16384 : Shape := ⟨2, ![4096, 16384]⟩
abbrev S5120x16384 : Shape := ⟨2, ![5120, 16384]⟩
abbrev S5120x512 : Shape := ⟨2, ![5120, 512]⟩
abbrev S4096x5120 : Shape := ⟨2, ![4096, 5120]⟩
abbrev S4096x128 : Shape := ⟨2, ![4096, 128]⟩
abbrev S4096x160 : Shape := ⟨2, ![4096, 160]⟩
abbrev S5120x512x32 : Shape := ⟨3, ![5120, 512, 32]⟩
abbrev S5120x512x1 : Shape := ⟨3, ![5120, 512, 1]⟩
abbrev S4096x1 : Shape := ⟨2, ![4096, 1]⟩
abbrev S4096x160x32 : Shape := ⟨3, ![4096, 160, 32]⟩
abbrev S4096x160x246 : Shape := ⟨3, ![4096, 160, 246]⟩
abbrev S4096x160x1 : Shape := ⟨3, ![4096, 160, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x16384, .fp8e4m3⟩
  | .hbm, ⟨1, _⟩ => ⟨S5120x16384, .fp8e4m3⟩
  | .hbm, ⟨2, _⟩ => ⟨S5120x512, .i8⟩
  | .hbm, ⟨3, _⟩ => ⟨S4096x5120, .bf16⟩
  | .hbm, ⟨4, _⟩ => ⟨S4096x128, .f32⟩
  | .hbm, ⟨5, _⟩ => ⟨S4096x5120, .bf16⟩
  | .hbm, ⟨6, _⟩ => ⟨S4096x5120, .fp8e4m3⟩
  | .hbm, ⟨7, _⟩ => ⟨S4096x160, .i8⟩
  | .local _ .vmem, ⟨0, _⟩ => ⟨S4096x16384, .fp8e4m3⟩
  | .local _ .vmem, ⟨1, _⟩ => ⟨S5120x16384, .fp8e4m3⟩
  | .local _ .vmem, ⟨2, _⟩ => ⟨S5120x512, .i8⟩
  | .local _ .vmem, ⟨3, _⟩ => ⟨S4096x5120, .bf16⟩
  | .local _ .vmem, ⟨4, _⟩ => ⟨S4096x128, .f32⟩
  | .local _ .vmem, ⟨5, _⟩ => ⟨S4096x5120, .bf16⟩
  | .local _ .vmem, ⟨6, _⟩ => ⟨S4096x5120, .fp8e4m3⟩
  | .local _ .vmem, ⟨7, _⟩ => ⟨S4096x160, .i8⟩
  | _, _ => ⟨S4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x160 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quantise.lean ====
abbrev S4096x16384 : Shape := ⟨2, ![4096, 16384]⟩
abbrev S4096x128 : Shape := ⟨2, ![4096, 128]⟩
abbrev S128x16384 : Shape := ⟨2, ![128, 16384]⟩
abbrev S128x128 : Shape := ⟨2, ![128, 128]⟩
abbrev S64x128 : Shape := ⟨2, ![64, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .fp8e4m3⟩
  | .hbm, ⟨2, _⟩ => ⟨S4096x128, .f32⟩
  | .local _ .vmem, ⟨0, _⟩ => ⟨S128x16384, .bf16⟩
  | .local _ .vmem, ⟨1, _⟩ => ⟨S128x16384, .bf16⟩
  | .local _ .vmem, ⟨2, _⟩ => ⟨S128x16384, .fp8e4m3⟩
  | .local _ .vmem, ⟨3, _⟩ => ⟨S128x16384, .fp8e4m3⟩
  | .local _ .vmem, ⟨4, _⟩ => ⟨S128x128, .f32⟩
  | .local _ .vmem, ⟨5, _⟩ => ⟨S128x128, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantiseIdeal.lean ====
variable {F : FTy → Type} [FloatOps F]
-- ==== QuantiseReferenceIdeal.lean ====
abbrev S4096x16384 : Shape := ⟨2, ![4096, 16384]⟩
abbrev S4096x128 : Shape := ⟨2, ![4096, 128]⟩
abbrev S4096 : Shape := ⟨1, ![4096]⟩
abbrev S4096x1 : Shape := ⟨2, ![4096, 1]⟩
abbrev S4096x246 : Shape := ⟨2, ![4096, 246]⟩

abbrev nBuf : Space → Nat
  | .hbm => 3
  | .vmem => 3
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .fp8e4m3⟩
  | .hbm, ⟨2, _⟩ => ⟨S4096x128, .f32⟩
  | .local _ .vmem, ⟨0, _⟩ => ⟨S4096x16384, .bf16⟩
  | .local _ .vmem, ⟨1, _⟩ => ⟨S4096x16384, .fp8e4m3⟩
  | .local _ .vmem, ⟨2, _⟩ => ⟨S4096x128, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Mm.KFrame.lean ====
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import proofs.«01_k».proof.Proof.Gen.Kernel.Launch
public import Idealize.ShloMosaic.Lib.Tactic

/-!
The frame of the matmul kernel as it is compiled: it terminates without a fault, its arguments end unchanged, and nothing is
said of what it leaves in its results.
-/

@[expose] public section

set_option maxRecDepth 16384

noncomputable section

namespace Cert.Kernel.Mm

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [BitOps F]

local notation "𝕄" => MT nD τ sig Unit (Elt F) ℕ (UR sig nD τ) ℕ

/-- No loop of the program needs a variant. -/
abbrev 𝒱₀ : Variants := Variants.none

set_option maxHeartbeats 4000000 in
/-- The body at a grid point, from its inputs at given blocks and everything else at anything. -/
theorem run (c : Dev nD) (i : grid0.Coords) (arg2 : Memref sig .tc .vmem S512x16384 .fp8e4m3) (harg2 : arg2.IsWhole) (arg3 : Memref sig .tc .vmem S512x16384 .fp8e4m3) (harg3 : arg3.IsWhole) (arg4 : Memref sig .tc .vmem S512x512 .i8) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x512 .bf16) (harg7 : arg7.IsWhole) (arg8 : Memref sig .tc .vmem S512x512 .fp8e4m3) (harg8 : arg8.IsWhole) (arg9 : Memref sig .tc .vmem S512x160 .i8) (harg9 : arg9.IsWhole) (arg10 : Memref sig .tc .vmem S512x512 .bf16) (harg10 : arg10.IsWhole) (arg11 : Memref sig .tc .vmem S512x512 .f32) (harg11 : arg11.IsWhole) (arg12 : Memref sig .tc .vmem S256x256 .i32) (harg12 : arg12.IsWhole)
    (x2 : Vec F S512x16384 .fp8e4m3) (x3 : Vec F S512x16384 .fp8e4m3) (x4 : Vec F S512x512 .i8) (x5 : Vec F S512x512 .bf16) (x6 : Vec F S512x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ c none) E (cc0_mm i arg2 harg2 arg3 harg3 arg4 harg4 arg5 harg5 arg6 harg6 arg7 harg7 arg8 harg8 arg9 harg9 arg10 harg10 arg11 harg11 arg12 harg12) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6
  sl_unfold [cc0_mm]
  sl_exec!
  sl_step
  iapply Hk
  isplitl [H2]; · iexists _; isplitr; swap; iexact H2; ipureintro; exact harg2.read_unread x2
  isplitl [H3]; · iexists _; isplitr; swap; iexact H3; ipureintro; exact harg3.read_unread x3
  isplitl [H4]; · iexists _; isplitr; swap; iexact H4; ipureintro; exact harg4.read_unread x4
  isplitl [H5]; · iexists _; isplitr; swap; iexact H5; ipureintro; exact harg5.read_unread x5
  isplitl [H6]; · iexists _; isplitr; swap; iexact H6; ipureintro; exact harg6.read_unread x6
  isplitl [H7]; · iexists _; iexists _; isplitr; swap; iexact H7; ipureintro; rfl
  isplitl [H8]; · iexists _; iexists _; isplitr; swap; iexact H8; ipureintro; rfl
  isplitl [H9]; · iexists _; iexists _; isplitr; swap; iexact H9; ipureintro; rfl
  isplitl [H10]; · iexists _; iexists _; isplitr; swap; iexact H10; ipureintro; rfl
  isplitl [H11]; · iexists _; iexists _; isplitr; swap; iexact H11; ipureintro; rfl
  iexists _; iexists _; isplitr; swap; iexact H12; ipureintro; rfl

variable (m : (ℓ : Loc nD τ sig) → Buf (Elt F) ℓ) (ρ : Dev nD → PrngReg)

/-- The three results are forgotten. -/
def forgets0 : Fin 8 → Bool := fun w => decide (5 ≤ w.val)

/-- The pipeline's proof data: the inputs at their blocks, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

theorem body_obligation (c : Dev nD) : BodyObligation (dats (F := F) m 0 c) (defs₀ (F := F)) 𝒱₀ () Set.univ forgets0 := fun t => by
  rw [bigSep_W0, bigSep_W0]
  sl_whnfR [defs₀, Defs.onTc]
  simp only [before0_0, before0_1, before0_2, before0_3, before0_4, show forgets0 0 = false from rfl, show forgets0 1 = false from rfl,
    show forgets0 2 = false from rfl, show forgets0 3 = false from rfl, show forgets0 4 = false from rfl, show forgets0 5 = true from rfl,
    show forgets0 6 = true from rfl, show forgets0 7 = true from rfl]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, after0_2, after0_3, after0_4]
  unfold Pipeline.ΦA
  rw [scopedRest0_eq]
  simp only [← owns_whole]
  iintro ⟨⟨⟨HA, HB, HC⟩, HP⟩, Ho, ⟨%d0, H0⟩, ⟨%d1, H1⟩, ⟨%d2, H2⟩, ⟨%d3, H3⟩, ⟨%d4, H4⟩, H5, H6, H7⟩
  iapply (run c (grid0.coords t) _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  isplitl [HB]; · iexact HB
  isplitl [HC]; · iexact HC
  iintro ⟨H0, H1, H2, H3, H4, H5, H6, H7, HA, HB, HC⟩
  isplitl [HA HB HC HP]
  · isplitl [HA HB HC]
    · isplitl [HA]; · iexact HA
      isplitl [HB]; · iexact HB
      iexact HC
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- The run of the whole program, its results forgotten. -/
theorem run_main : θ_run defs (onTc (τ := τ) (main (F := F))) ⟨m, fun _ => 0, ρ⟩
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ 𝒱₀ forgets0 m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1.arr_in c 0 rfl).trans (V_main_arg0 m c), (h.1.arr_in c 1 rfl).trans (V_main_arg1 m c),
    (h.1.arr_in c 2 rfl).trans (V_main_arg2 m c), (h.1.arr_in c 3 rfl).trans (V_main_arg3 m c), (h.1.arr_in c 4 rfl).trans (V_main_arg4 m c)⟩, h.2⟩)
    (run_main m ρ)

end Cert.Kernel.Mm
-- ==== Proof.Mm.Values.lean ====
module

public import proofs.«01_k».proof.Proof.Gen.KernelIdeal.Skeleton
public import Idealize.ShloMosaic.Lib.VecWindow
public import Idealize.ShloMosaic.Lib.Pointwise

/-!
What the matmul kernel computes, block by block, in the kernel's own operations: the weight tile scaled, the
accumulator after `k` of the 16 trips, one 128-column tile of `y`, its block maxima, the exponent field by
bisection, the codes, and the combined scale words. Generic in the float reading.
-/

@[expose] public section

set_option maxRecDepth 16384

noncomputable section

namespace Cert.KernelIdeal.Mm

open Cert.KernelIdeal Cert.KernelIdeal.Gen
open Idealize.ShloMosaic

variable {F : FTy → Type} [FloatOps F]

/-! ## The weight and the accumulator -/

/-- The bf16 scales of a weight block: the scale byte in the exponent field. -/
abbrev sbOf (x4 : Vec F S512x512 .i8) : FVec F S512x512 .bf16 := k0_pay17 x4

/-- The gather index of a 128-column part: the group of 32 columns, offset by `g`. -/
def gIdx (g : BitVec 32) : IVec S512x128 32 :=
  addi (shrsi (iota .tc S512x128 32 [1] iota_S512x128_d1_w32) (broadcast S512x128 5#32)) (broadcast S512x128 g)

/-- A gather along the lanes as the kernel prints it, the index wrapped if negative. -/
def gath (src : FVec F S512x128 .f32) (ix : IVec S512x128 32) : FVec F S512x128 .f32 :=
  dynamicGather 1 src (shapeCast S512x128 (shapeCast S512x128x1
    (select (cmpi .slt ix (broadcast S512x128 0#32)) (addi ix (broadcast S512x128 128#32)) ix)
      shapeCasts_S512x128_S512x128x1) shapeCasts_S512x128x1_S512x128)

/-- 128 columns of the weight times their scales. -/
def wPart (sc : FVec F S512x128 .f32) (g : BitVec 32) (w : Vec F S512x128 .fp8e4m3) : FVec F S512x128 .bf16 :=
  mulf (extf .bf16 w bitsLt_fp8e4m3_bf16) (truncf .bf16 (gath sc (gIdx g)) bitsLt_bf16_f32)

/-- The first scale lane of trip `k`: 32 (k mod 4), as the kernel computes it. -/
def gBase (k : Fin k0_t1_loop.trips) : BitVec 32 :=
  let a : BitVec 32 := Scf.iv 0#32 1#32 k
  let v756 : BitVec 32 := Scalar.select (Scalar.cmpi .eq 4#32 0#32) 1#32 4#32
  let v757 : BitVec 32 := Scalar.remsi a v756
  Scalar.muli (Scalar.select (Scalar.andi (Scalar.xori (Scalar.cmpi .slt v757 0#32) (Scalar.cmpi .slt v756 0#32)) (Scalar.cmpi .ne v757 0#32))
    (Scalar.addi v757 v756) v757) 32#32

/-- 128 columns of a block of the weight, from the printed offsets. -/
abbrev wCols (x3 : Vec F S512x16384 .fp8e4m3) (k : Fin k0_t1_loop.trips) (o : BitVec 32)
    (h : ∀ a, k0_off2 k o a + S512x128.size a ≤ S512x16384.size a) : Vec F S512x128 .fp8e4m3 :=
  VecWindow.window x3 (k0_off2 k o) S512x128.size h

/-- The accumulator after one trip. -/
def trip (x2 x3 : Vec F S512x16384 .fp8e4m3) (s : FVec F S512x512 .bf16) (k : Fin k0_t1_loop.trips) (a : FVec F S512x512 .f32) :
    FVec F S512x512 .f32 :=
  let sc : FVec F S512x128 .f32 := extf .f32 (VecWindow.window s (k0_off1 k) S512x128.size (k0_off1_inb k)) bitsLt_bf16_f32
  addf a (matmul dot_S512x1024_S512x1024_S512x512_1_1_0_0_n_n none
    (extf .bf16 (VecWindow.window x2 (k0_off3 k) S512x1024.size (k0_off3_inb k)) bitsLt_fp8e4m3_bf16)
    (concatenate S512x1024 1
      [⟨S512x128, wPart sc (Scalar.addi (gBase k) 0#32) (wCols x3 k 0#32 (k0_off2_inb k 0))⟩,
       ⟨S512x128, wPart sc (Scalar.addi (gBase k) 4#32) (wCols x3 k 128#32 (k0_off2_inb k 1))⟩,
       ⟨S512x128, wPart sc (Scalar.addi (gBase k) 8#32) (wCols x3 k 256#32 (k0_off2_inb k 2))⟩,
       ⟨S512x128, wPart sc (Scalar.addi (gBase k) 12#32) (wCols x3 k 384#32 (k0_off2_inb k 3))⟩,
       ⟨S512x128, wPart sc (Scalar.addi (gBase k) 16#32) (wCols x3 k 512#32 (k0_off2_inb k 4))⟩,
       ⟨S512x128, wPart sc (Scalar.addi (gBase k) 20#32) (wCols x3 k 640#32 (k0_off2_inb k 5))⟩,
       ⟨S512x128, wPart sc (Scalar.addi (gBase k) 24#32) (wCols x3 k 768#32 (k0_off2_inb k 6))⟩,
       ⟨S512x128, wPart sc (Scalar.addi (gBase k) 28#32) (wCols x3 k 896#32 (k0_off2_inb k 7))⟩]
      concatenates_S512x128_S512x128_S512x128_S512x128_S512x128_S512x128_S512x128_S512x128_S512x1024_d1)
    (constant S512x512 .f32 0x00000000#32))

/-- The accumulator before trip `k`. -/
def acc (x2 x3 : Vec F S512x16384 .fp8e4m3) (s : FVec F S512x512 .bf16) : ℕ → FVec F S512x512 .f32
  | 0 => k0_pay18
  | k + 1 => if h : k < k0_t1_loop.trips then trip x2 x3 s ⟨k, h⟩ (acc x2 x3 s k) else acc x2 x3 s k

/-! ## One 128-column tile of the result and its requantization -/

/-- A tile of `y`: the accumulator times the row scales, plus the residual, to bf16. -/
abbrev yTile (a xs : Vec F S512x128 .f32) (r : Vec F S512x128 .bf16) : FVec F S512x128 .bf16 := k0_pay21 a xs r

/-- Rows split by parity and put back together. -/
abbrev pair (v : FVec F S512x128 .bf16) : FVec F S512x128 .bf16 :=
  interleaveRows S512x128 (rowsOfParity 0 S256x128 v bitcasts_S512x128_w16_S256x128_w32)
    (rowsOfParity 1 S256x128 v bitcasts_S512x128_w16_S256x128_w32) bitcasts_S512x128_w16_S256x128_w32

/-- The rows of a tile rotated along the lanes by `s`. -/
abbrev roll (s : BitVec 32) (v : FVec F S512x128 .bf16) : FVec F S512x128 .bf16 :=
  interleaveRows S512x128
    (dynamicRotate 1 s none (rowsOfParity 0 S256x128 v bitcasts_S512x128_w16_S256x128_w32) rotates_S256x128_d1)
    (dynamicRotate 1 s none (rowsOfParity 1 S256x128 v bitcasts_S512x128_w16_S256x128_w32) rotates_S256x128_d1)
    bitcasts_S512x128_w16_S256x128_w32

/-- The maximum of each lane and the lane rotated onto it. -/
def rollMax (s : BitVec 32) (v : FVec F S512x128 .bf16) : FVec F S512x128 .bf16 := maximumf (pair v) (roll s v)

/-- The first lane of each lane's group of 32. -/
def lane32 : IVec S512x128 32 := andi (iota .tc S512x128 32 [1] iota_S512x128_d1_w32) (broadcast S512x128 4294967264#32)

/-- The maximum magnitude of each lane's group of 32 lanes. -/
def groupMax (y : FVec F S512x128 .bf16) : FVec F S512x128 .f32 :=
  extf .f32 (pair (truncf .bf16 (gath (extf .f32 (pair
    (rollMax 112#32 (rollMax 120#32 (rollMax 124#32 (rollMax 126#32 (rollMax 127#32 (absf y))))))) bitsLt_bf16_f32) lane32)
      bitsLt_bf16_f32)) bitsLt_bf16_f32

/-- One step of the bisection: `b` is added to the field where the maximum reaches the threshold. -/
def raise (b : BitVec 32) (m : FVec F S512x128 .f32) (f : IVec S512x128 32) : IVec S512x128 32 :=
  select (cmpf .oge m (bitcastToFloat .f32
      (subi (shli (addi f (broadcast S512x128 b)) (broadcast S512x128 23#32)) (broadcast S512x128 2097152#32))))
    (addi f (broadcast S512x128 b)) f

/-- The exponent field before the floor at 10. -/
def rawField (m : FVec F S512x128 .f32) : IVec S512x128 32 :=
  raise 1#32 m (raise 2#32 m (raise 4#32 m (raise 8#32 m (raise 16#32 m (raise 32#32 m (raise 64#32 m (raise 128#32 m
    (broadcast S512x128 0#32))))))))

/-- The exponent fields of a tile, two rows to a word. -/
def words (y : FVec F S512x128 .bf16) : IVec S256x128 32 := k0_pay34 (rawField (groupMax y)) k0_pay33

/-- The codes of a tile. -/
def codes (y : FVec F S512x128 .bf16) : FVec F S512x128 .fp8e4m3 := k0_pay35 y (rawField (groupMax y)) k0_pay33

/-- The scale words of the four tiles, one lane of each group of 32 from each tile. -/
def combined (w0 w1 w2 w3 : IVec S256x128 32) : IVec S256x128 32 :=
  k0_pay75 (iota .tc S256x128 32 [1] iota_S256x128_d1_w32) k0_pay20 (k0_pay61 k0_pay20 (k0_pay46 k0_pay20 w0 w1) w2) w3

/-! ## One grid point -/

theorem inb_cols (j : Fin 4) (a : Fin S512x512.rank) : (![0, 128 * j.val] : Fin 2 → ℕ) a + S512x128.size a ≤ S512x512.size a := by
  have := j.isLt
  fin_cases a <;> simp [S512x512, S512x128] <;> omega

/-- Columns `128 j` to `128 j + 127` of a block. -/
abbrev cols {α : Type} (x : S512x512.Idx → α) (j : Fin 4) : S512x128.Idx → α :=
  VecWindow.window x ![0, 128 * j.val] S512x128.size (inb_cols j)

/-- The four tiles of `y` at a grid point, from the five input blocks. -/
def yAt (x2 x3 : Vec F S512x16384 .fp8e4m3) (x4 : Vec F S512x512 .i8) (x5 : Vec F S512x512 .bf16) (x6 : Vec F S512x128 .f32) (j : Fin 4) :
    FVec F S512x128 .bf16 :=
  yTile (cols (acc x2 x3 (sbOf x4) k0_t1_loop.trips) j) x6 (cols x5 j)

/-- Four tiles side by side. -/
def glue {α : Type} (v : Fin 4 → S512x128.Idx → α) : S512x512.Idx → α := fun p =>
  v ⟨(p 1).val / 128, by have h : (p 1).val < 512 := (p 1).isLt; omega⟩ (ix2 (n0 := 512) (n1 := 128) (p 0) ⟨(p 1).val % 128, Nat.mod_lt _ (by decide)⟩)

/-- The block of `y` a grid point leaves. -/
def yBlk (x2 x3 : Vec F S512x16384 .fp8e4m3) (x4 : Vec F S512x512 .i8) (x5 : Vec F S512x512 .bf16) (x6 : Vec F S512x128 .f32) :
    Vec F S512x512 .bf16 := glue (yAt x2 x3 x4 x5 x6)

/-- The block of codes a grid point leaves. -/
def cBlk (x2 x3 : Vec F S512x16384 .fp8e4m3) (x4 : Vec F S512x512 .i8) (x5 : Vec F S512x512 .bf16) (x6 : Vec F S512x128 .f32) :
    Vec F S512x512 .fp8e4m3 := glue fun j => codes (yAt x2 x3 x4 x5 x6 j)

/-- The combined scale words of a grid point. -/
def comb (x2 x3 : Vec F S512x16384 .fp8e4m3) (x4 : Vec F S512x512 .i8) (x5 : Vec F S512x512 .bf16) (x6 : Vec F S512x128 .f32) :
    IVec S256x128 32 :=
  combined (words (yAt x2 x3 x4 x5 x6 0)) (words (yAt x2 x3 x4 x5 x6 1)) (words (yAt x2 x3 x4 x5 x6 2)) (words (yAt x2 x3 x4 x5 x6 3))

/-- The scale words kept across the ten column blocks, after column block `n`. -/
def newWords (n : ℕ) (cb : IVec S256x128 32) (x : S256x256.Idx → BitVec 32) : S256x256.Idx → BitVec 32 := fun p =>
  if (p 1).val / 16 = n then cb (ix2 (n0 := 256) (n1 := 128) (p 0) ⟨(p 1).val % 128, Nat.mod_lt _ (by decide)⟩) else x p

/-- The scale bytes of a row block, from the kept words: row `r` is halfword `r mod 2` of the words of row `r / 2`. -/
def ysOf (x : S256x256.Idx → BitVec 32) : S512x160.Idx → BitVec 8 := fun p =>
  if h : (p 1).val < 128 then
    k0_pay2 (F := F) (fun q => x (ix2 (n0 := 256) (n1 := 256) (q 0) ⟨(q 1).val, Nat.lt_of_lt_of_le (q 1).isLt (by decide)⟩))
      (ix2 (n0 := 512) (n1 := 128) (p 0) ⟨(p 1).val, h⟩)
  else
    k0_pay3 (F := F) (fun q => x (ix2 (n0 := 256) (n1 := 256) (q 0) ⟨(q 1).val + 128, by have h : (q 1).val < 128 := (q 1).isLt; show _ < 256; omega⟩))
      (ix2 (n0 := 512) (n1 := 32) (p 0) ⟨(p 1).val - 128, by have : (p 1).val < 160 := (p 1).isLt; omega⟩)

end Cert.KernelIdeal.Mm
-- ==== Proof.Mm.Reads.lean ====
module

public import proofs.«01_k».proof.Proof.Mm.Values
public import Idealize.ShloMosaic.Lib.WritesUnit

/-!
What the stores of a grid point leave, read back: four tiles side by side, the kept scale words after a masked
store, and the scale bytes.
-/

@[expose] public section

set_option maxRecDepth 16384

noncomputable section

namespace Cert.KernelIdeal.Mm

open Cert.KernelIdeal Cert.KernelIdeal.Gen
open Idealize.ShloMosaic

variable {F : FTy → Type} [FloatOps F]

/-- A load of 128 columns is those columns of what the buffer reads. -/
theorem readAt_cols {κ : Kind} {sp : Space} {e : EltTy} (v : View sig κ sp S512x512 e) (f : v.ty.Contents (Elt F)) (j : Fin 4) (o : ℕ)
    (ho : o = 128 * j.val) (io) :
    v.readAt (Elt F) (Rect.unit (s := S512x512) ![0, o] S512x128.size io).toLoadRect f = cols (v.read (Elt F) f) j := by
  subst ho; rfl

/-- Four stores of 128 columns leave the four tiles side by side. -/
theorem read_glue {κ : Kind} {sp : Space} {e : EltTy} (v : View sig κ sp S512x512 e) (f : v.ty.Contents (Elt F)) (W : Fin 4 → S512x128.Idx → Elt F e)
    (i0 i1 i2 i3) :
    v.read (Elt F) (v.writes (Elt F) f
      [⟨Rect.unit (s := S512x512) ![0, 384] S512x128.size i3, W 3⟩, ⟨Rect.unit (s := S512x512) ![0, 256] S512x128.size i2, W 2⟩,
       ⟨Rect.unit (s := S512x512) ![0, 128] S512x128.size i1, W 1⟩, ⟨Rect.unit (s := S512x512) ![0, 0] S512x128.size i0, W 0⟩]) = glue W := by
  funext p
  have hp : (p 1).val < 512 := (p 1).isLt
  have hp0 : (p 0).val < 512 := (p 0).isLt
  have key : ∀ (o : ℕ) (j : Fin 4) (hj : o = 128 * j.val) (io) (L : List (View.Piece (Elt F) S512x512 e)),
      ((p 1).val / 128 = j.val → v.read (Elt F) (v.writes (Elt F) f
        ((⟨Rect.unit (s := S512x512) ![0, o] S512x128.size io, W j⟩ : View.Piece (Elt F) S512x512 e) :: L)) p = glue W p)
      ∧ ((p 1).val / 128 ≠ j.val → v.read (Elt F) (v.writes (Elt F) f
        ((⟨Rect.unit (s := S512x512) ![0, o] S512x128.size io, W j⟩ : View.Piece (Elt F) S512x512 e) :: L)) p
          = v.read (Elt F) (v.writes (Elt F) f L) p) := by
    intro o j hj io L
    constructor
    · intro h
      rw [View.read_writes_cons_unit_of_mem v f io (W j) L p
        (ix2 (n0 := 512) (n1 := 128) (p 0) ⟨(p 1).val % 128, Nat.mod_lt _ (by decide)⟩) rfl ?_]
      · unfold glue
        congr 1
        exact Fin.ext h.symm
      · intro a
        match a with
        | ⟨0, _⟩ => show (p 0).val = 0 + (p 0).val; omega
        | ⟨1, _⟩ => show (p 1).val = o + (p 1).val % 128; omega
    · intro h
      exact View.read_writes_cons_unit_of_not_mem v f io (W j) L p rfl 1 (by
        show (p 1).val < o ∨ o + 128 ≤ (p 1).val
        omega)
  by_cases h3 : (p 1).val / 128 = 3
  · exact (key 384 3 rfl i3 _).1 h3
  rw [(key 384 3 rfl i3 _).2 h3]
  by_cases h2 : (p 1).val / 128 = 2
  · exact (key 256 2 rfl i2 _).1 h2
  rw [(key 256 2 rfl i2 _).2 h2]
  by_cases h1 : (p 1).val / 128 = 1
  · exact (key 128 1 rfl i1 _).1 h1
  rw [(key 128 1 rfl i1 _).2 h1]
  exact (key 0 0 rfl i0 _).1 (by show _ = 0; omega)

/-- The lane mask of column block `n`: the 16 lanes of `n mod 8`. -/
theorem mask_iff (n : Fin 10) (q : S256x128.Idx) :
    k0_pay76 (BitVec.ofNat 32 n.val) (iota .tc S256x128 32 [1] iota_S256x128_d1_w32) q = 1#1 ↔ (q 1).val / 16 = n.val % 8 := by
  have key : ∀ (n : Fin 10) (l : Fin 128),
      (Scalar.cmpi .eq (Scalar.shrsi (BitVec.ofNat 32 l.val) 4#32)
        (let v682 : BitVec 32 := Scalar.select (Scalar.cmpi .eq 8#32 0#32) 1#32 8#32
         let v683 : BitVec 32 := Scalar.remsi (BitVec.ofNat 32 n.val) v682
         Scalar.select (Scalar.andi (Scalar.xori (Scalar.cmpi .slt v683 0#32) (Scalar.cmpi .slt v682 0#32)) (Scalar.cmpi .ne v683 0#32))
          (Scalar.addi v683 v682) v683)) = 1#1 ↔ l.val / 16 = n.val % 8 := by decide +kernel
  have e := key n (q 1)
  pointwise [k0_pay76]
  exact e

/-- The masked store of the combined words into the block of lanes `128 (n / 8)` on leaves the kept words updated. -/
theorem read_newWords {κ : Kind} {sp : Space} (v : View sig κ sp S256x256 .i32) (f : v.ty.Contents (Elt F)) (n : Fin 10) (o : ℕ) (ho : o = 128 * (n.val / 8))
    (cb : IVec S256x128 32) (io) (io') :
    v.read (Elt F) (v.writes (Elt F) f
      [⟨Rect.unit (s := S256x256) ![0, o] S256x128.size io,
        k0_pay1 (F := F) cb (k0_pay76 (BitVec.ofNat 32 n.val) (iota .tc S256x128 32 [1] iota_S256x128_d1_w32))
          (v.readAt (Elt F) (Rect.unit (s := S256x256) ![0, o] S256x128.size io').toLoadRect f)⟩]) = newWords n.val cb (v.read (Elt F) f) := by
  funext p
  have hp : (p 1).val < 256 := (p 1).isLt
  have hn := n.isLt
  rw [View.readAt_unit v f io' rfl io]
  by_cases hb : (p 1).val / 128 = n.val / 8
  · rw [View.read_writes_cons_unit_of_mem v f io _ [] p
        (ix2 (n0 := 256) (n1 := 128) (p 0) ⟨(p 1).val % 128, Nat.mod_lt _ (by decide)⟩) rfl ?_]
    · show (shapeCast S256x128 (select _ cb _) _) _ = _
      rw [shapeCast_self]
      show (if k0_pay76 _ _ _ = 1#1 then _ else _) = _
      unfold newWords
      by_cases hm : (p 1).val / 16 = n.val
      · rw [if_pos ((mask_iff n _).2 (by show (p 1).val % 128 / 16 = _; omega)), if_pos hm]
      · rw [if_neg (fun h => hm (by have := (mask_iff n _).1 h; have : (p 1).val % 128 / 16 = n.val % 8 := this; omega)), if_neg hm]
        refine congrArg (v.read (Elt F) f) (funext fun a => Fin.ext ?_)
        match a with
        | ⟨0, _⟩ => show 0 + 1 * (p 0).val = (p 0).val; omega
        | ⟨1, _⟩ => show o + 1 * ((p 1).val % 128) = (p 1).val; omega
    · intro a
      match a with
      | ⟨0, _⟩ => show (p 0).val = 0 + (p 0).val; omega
      | ⟨1, _⟩ => show (p 1).val = o + (p 1).val % 128; omega
  · rw [View.read_writes_cons_unit_of_not_mem v f io _ [] p rfl 1 (by
        show (p 1).val < o ∨ o + 128 ≤ (p 1).val
        omega)]
    unfold newWords
    rw [if_neg (by omega)]
    rfl

/-- The two stores of the scale bytes leave the bytes of the kept words. -/
theorem read_ysOf {κ : Kind} {sp : Space} (v : View sig κ sp S512x160 .i8) (f : v.ty.Contents (Elt F)) (x : S256x256.Idx → BitVec 32)
    (w0 w1 : Vec F S256x128 .i32) (i0 i1) (j0 j1)
    (h0 : w0 = VecWindow.window x ![0, 0] S256x128.size j0) (h1 : w1 = VecWindow.window x ![0, 128] S256x128.size j1) :
    v.read (Elt F) (v.writes (Elt F) f
      [⟨Rect.unit (s := S512x160) ![0, 128] S512x32.size i1, k0_pay3 (F := F) w1⟩,
       ⟨Rect.unit (s := S512x160) ![0, 0] S512x128.size i0, k0_pay2 (F := F) w0⟩]) = ysOf (F := F) x := by
  subst h0 h1
  funext p
  have hp : (p 1).val < 160 := (p 1).isLt
  unfold ysOf
  by_cases h : (p 1).val < 128
  · rw [dif_pos h, View.read_writes_cons_unit_of_not_mem v f i1 _ _ p rfl 1 (by
        show (p 1).val < 128 ∨ 128 + 32 ≤ (p 1).val
        omega)]
    rw [View.read_writes_cons_unit_of_mem v f i0 _ [] p (ix2 (n0 := 512) (n1 := 128) (p 0) ⟨(p 1).val, h⟩) rfl ?_]
    · congr 1
      congr 1
      funext q
      refine congrArg x (funext fun a => Fin.ext ?_)
      match a with
      | ⟨0, _⟩ => show 0 + 1 * (q 0).val = (q 0).val; omega
      | ⟨1, _⟩ => show 0 + 1 * (q 1).val = (q 1).val; omega
    · intro a
      match a with
      | ⟨0, _⟩ => show (p 0).val = 0 + (p 0).val; omega
      | ⟨1, _⟩ => show (p 1).val = 0 + (p 1).val; omega
  · rw [dif_neg h]
    rw [View.read_writes_cons_unit_of_mem v f i1 _ _ p (ix2 (n0 := 512) (n1 := 32) (p 0) ⟨(p 1).val - 128, by omega⟩) rfl ?_]
    · congr 1
      congr 1
      funext q
      refine congrArg x (funext fun a => Fin.ext ?_)
      match a with
      | ⟨0, _⟩ => show 0 + 1 * (q 0).val = (q 0).val; omega
      | ⟨1, _⟩ => show 128 + 1 * (q 1).val = (q 1).val + 128; omega
    · intro a
      match a with
      | ⟨0, _⟩ => show (p 0).val = 0 + (p 0).val; omega
      | ⟨1, _⟩ => show (p 1).val = 128 + ((p 1).val - 128); omega

end Cert.KernelIdeal.Mm
-- ==== Proof.Mm.Acc.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Mm.Reads

/-!
The run of the matmul kernel's body at one grid point, over any buffers: the loads and stores executed, and what each
buffer then holds.
-/

@[expose] public section

set_option maxRecDepth 16384

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The second grid coordinate divided by 8, as the body's scalar operations compute it. -/
abbrev q8 (a : BitVec 32) : BitVec 32 :=
  Scalar.select (Scalar.andi
      (Scalar.cmpi .ne (Scalar.subi (Scalar.extui (Scalar.cmpi .sgt a 0#32) : BitVec 32) (Scalar.extui (Scalar.cmpi .slt a 0#32)))
        (Scalar.subi (Scalar.extui (Scalar.cmpi .sgt 8#32 0#32) : BitVec 32) (Scalar.extui (Scalar.cmpi .slt 8#32 0#32))))
      (Scalar.cmpi .ne (Scalar.remsi a 8#32) 0#32))
    (Scalar.subi (Scalar.divsi a 8#32) 1#32) (Scalar.divsi a 8#32)

/-- Whether the point's columns go to the first (`c = 0`) or the second (`c = 1`) block of the scratch. -/
abbrev inBlock (c : BitVec 32) (i : grid0.Coords) : BitVec 1 :=
  Scalar.cmpi .ne (Scalar.extui (Scalar.cmpi .eq (q8 (BitVec.ofNat 32 (i 1).val)) c) : BitVec 32) 0#32

/-- The first scale lane, as the run of a trip names it. -/
theorem base_eq : ∀ k : Fin k0_t1_loop.trips, trip_k0_t1.sl.v765 k = gBase k := by decide +kernel

/-- The printed parts of the weight are the stated ones. -/
theorem pay7_eq (sc : FVec F S512x128 .f32) (k : Fin k0_t1_loop.trips) (w : Vec F S512x128 .fp8e4m3) :
    k0_pay7 sc k0_pay5 (k0_pay6 0#32 1#32 k) w = wPart sc (Scalar.addi (gBase k) 0#32) w := rfl
theorem pay8_eq (sc : FVec F S512x128 .f32) (b : BitVec 32) (w : Vec F S512x128 .fp8e4m3) :
    k0_pay8 b sc (iota .tc S512x128 32 [1] iota_S512x128_d1_w32) w = wPart sc (Scalar.addi b 4#32) w := rfl
theorem pay10_eq (sc : FVec F S512x128 .f32) (b : BitVec 32) (w : Vec F S512x128 .fp8e4m3) :
    k0_pay10 sc (k0_pay9 b (iota .tc S512x128 32 [1] iota_S512x128_d1_w32)) w = wPart sc (Scalar.addi b 8#32) w := rfl
theorem pay11_eq (sc : FVec F S512x128 .f32) (b : BitVec 32) (w : Vec F S512x128 .fp8e4m3) :
    k0_pay11 b sc (iota .tc S512x128 32 [1] iota_S512x128_d1_w32) w = wPart sc (Scalar.addi b 12#32) w := rfl
theorem pay12_eq (sc : FVec F S512x128 .f32) (b : BitVec 32) (w : Vec F S512x128 .fp8e4m3) :
    k0_pay12 b sc (iota .tc S512x128 32 [1] iota_S512x128_d1_w32) w = wPart sc (Scalar.addi b 16#32) w := rfl
theorem pay13_eq (sc : FVec F S512x128 .f32) (b : BitVec 32) (w : Vec F S512x128 .fp8e4m3) :
    k0_pay13 b sc (iota .tc S512x128 32 [1] iota_S512x128_d1_w32) 5#32 w = wPart sc (Scalar.addi b 20#32) w := rfl
theorem pay14_eq (sc : FVec F S512x128 .f32) (b : BitVec 32) (w : Vec F S512x128 .fp8e4m3) :
    k0_pay14 b sc (iota .tc S512x128 32 [1] iota_S512x128_d1_w32) w = wPart sc (Scalar.addi b 24#32) w := rfl
theorem pay19_eq (sc : FVec F S512x128 .f32) (b : BitVec 32) (w0 w1 w2 w3 w4 w5 w6 : FVec F S512x128 .bf16) (w : Vec F S512x128 .fp8e4m3)
    (x : Vec F S512x1024 .fp8e4m3) (a : Vec F S512x512 .f32) :
    k0_pay19 sc w0 w1 w2 w3 w4 w5 w6 (k0_pay15 b (iota .tc S512x128 32 [1] iota_S512x128_d1_w32))
        (k0_pay16 b (iota .tc S512x128 32 [1] iota_S512x128_d1_w32)) 128#32 w x a
      = addf a (matmul dot_S512x1024_S512x1024_S512x512_1_1_0_0_n_n none (extf .bf16 x bitsLt_fp8e4m3_bf16)
          (concatenate S512x1024 1
            [⟨S512x128, w0⟩, ⟨S512x128, w1⟩, ⟨S512x128, w2⟩, ⟨S512x128, w3⟩, ⟨S512x128, w4⟩, ⟨S512x128, w5⟩, ⟨S512x128, w6⟩,
             ⟨S512x128, wPart sc (Scalar.addi b 28#32) w⟩]
            concatenates_S512x128_S512x128_S512x128_S512x128_S512x128_S512x128_S512x128_S512x128_S512x1024_d1)
          (constant S512x512 .f32 0x00000000#32)) := shapeCast_self _ _

/-- The loop's trips leave in the accumulator what the recursion states. -/
theorem read_acc (c : Dev nD) (i : grid0.Coords) (arg2 : Memref sig .tc .vmem S512x16384 .fp8e4m3) (harg2 : arg2.IsWhole) (arg3 : Memref sig .tc .vmem S512x16384 .fp8e4m3) (harg3 : arg3.IsWhole) (arg4 : Memref sig .tc .vmem S512x512 .i8) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x512 .bf16) (harg7 : arg7.IsWhole) (arg8 : Memref sig .tc .vmem S512x512 .fp8e4m3) (harg8 : arg8.IsWhole) (arg9 : Memref sig .tc .vmem S512x160 .i8) (harg9 : arg9.IsWhole) (arg10 : Memref sig .tc .vmem S512x512 .bf16) (harg10 : arg10.IsWhole) (arg11 : Memref sig .tc .vmem S512x512 .f32) (harg11 : arg11.IsWhole) (arg12 : Memref sig .tc .vmem S256x256 .i32) (harg12 : arg12.IsWhole)
    (X2 : BufTy.Contents (Elt F) arg2.view.ty) (X3 : BufTy.Contents (Elt F) arg3.view.ty) (X10 : BufTy.Contents (Elt F) arg10.view.ty) (G : BufTy.Contents (Elt F) arg11.view.ty)
    (hG : arg11.view.read (Elt F) G = k0_pay18) (k : ℕ) (hk : k ≤ k0_t1_loop.trips) :
    arg11.view.read (Elt F) (arg11.view.writes (Elt F) G (pb_k0_t1 𝒱₀ c none i arg2 harg2 arg3 harg3 arg4 harg4 arg5 harg5 arg6 harg6 arg7 harg7 arg8 harg8 arg9 harg9 arg10 harg10 arg11 harg11 arg12 harg12 X2 X3 X10 G k)) = acc (arg2.view.read (Elt F) X2) (arg3.view.read (Elt F) X3) (arg10.view.read (Elt F) X10) k := by
  induction k with
  | zero => exact hG
  | succ k ih =>
    have ih := ih (by omega)
    have hk' : k < k0_t1_loop.trips := by omega
    have hs := pb_k0_t1_succ (F := F) 𝒱₀ c none i arg2 harg2 arg3 harg3 arg4 harg4 arg5 harg5 arg6 harg6 arg7 harg7 arg8 harg8 arg9 harg9 arg10 harg10 arg11 harg11 arg12 harg12 X2 X3 X10 G ⟨k, hk'⟩
    have hs' : pb_k0_t1 𝒱₀ c none i arg2 harg2 arg3 harg3 arg4 harg4 arg5 harg5 arg6 harg6 arg7 harg7 arg8 harg8 arg9 harg9 arg10 harg10 arg11 harg11 arg12 harg12 X2 X3 X10 G (k + 1) = _ := hs
    rw [hs']
    unfold tripL_k0_t1 trip_k0_t1
    dsimp only
    rw [List.singleton_append, View.read_writes_full]
    unfold acc
    rw [dif_pos hk', ← ih]
    rw [View.readAt_full]
    unfold trip
    have eb : trip_k0_t1.sl.v765 ⟨k, hk'⟩ = gBase ⟨k, hk'⟩ := base_eq _
    have e1 : trip_k0_t1.sl.r_2 arg3 arg10 X3 X10 ⟨k, hk'⟩ = wPart (trip_k0_t1.sl.r arg10 X10 ⟨k, hk'⟩) (Scalar.addi (gBase ⟨k, hk'⟩) 0#32)
      (wCols (arg3.view.read (Elt F) X3) ⟨k, hk'⟩ 0#32 (k0_off2_inb ⟨k, hk'⟩ 0)) := by
      unfold trip_k0_t1.sl.r_2 trip_k0_t1.sl.r_1; exact pay7_eq _ _ _
    have e2 : trip_k0_t1.sl.r_3 arg3 arg10 X3 X10 ⟨k, hk'⟩ = wPart (trip_k0_t1.sl.r arg10 X10 ⟨k, hk'⟩) (Scalar.addi (gBase ⟨k, hk'⟩) 4#32)
      (wCols (arg3.view.read (Elt F) X3) ⟨k, hk'⟩ 128#32 (k0_off2_inb ⟨k, hk'⟩ 1)) := by
      unfold trip_k0_t1.sl.r_3; rw [eb]; exact pay8_eq _ _ _
    have e3 : trip_k0_t1.sl.r_5 arg3 arg10 X3 X10 ⟨k, hk'⟩ = wPart (trip_k0_t1.sl.r arg10 X10 ⟨k, hk'⟩) (Scalar.addi (gBase ⟨k, hk'⟩) 8#32)
      (wCols (arg3.view.read (Elt F) X3) ⟨k, hk'⟩ 256#32 (k0_off2_inb ⟨k, hk'⟩ 2)) := by
      unfold trip_k0_t1.sl.r_5 trip_k0_t1.sl.r_4; rw [eb]; exact pay10_eq _ _ _
    have e4 : trip_k0_t1.sl.r_6 arg3 arg10 X3 X10 ⟨k, hk'⟩ = wPart (trip_k0_t1.sl.r arg10 X10 ⟨k, hk'⟩) (Scalar.addi (gBase ⟨k, hk'⟩) 12#32)
      (wCols (arg3.view.read (Elt F) X3) ⟨k, hk'⟩ 384#32 (k0_off2_inb ⟨k, hk'⟩ 3)) := by
      unfold trip_k0_t1.sl.r_6; rw [eb]; exact pay11_eq _ _ _
    have e5 : trip_k0_t1.sl.r_7 arg3 arg10 X3 X10 ⟨k, hk'⟩ = wPart (trip_k0_t1.sl.r arg10 X10 ⟨k, hk'⟩) (Scalar.addi (gBase ⟨k, hk'⟩) 16#32)
      (wCols (arg3.view.read (Elt F) X3) ⟨k, hk'⟩ 512#32 (k0_off2_inb ⟨k, hk'⟩ 4)) := by
      unfold trip_k0_t1.sl.r_7; rw [eb]; exact pay12_eq _ _ _
    have e6 : trip_k0_t1.sl.r_8 arg3 arg10 X3 X10 ⟨k, hk'⟩ = wPart (trip_k0_t1.sl.r arg10 X10 ⟨k, hk'⟩) (Scalar.addi (gBase ⟨k, hk'⟩) 20#32)
      (wCols (arg3.view.read (Elt F) X3) ⟨k, hk'⟩ 640#32 (k0_off2_inb ⟨k, hk'⟩ 5)) := by
      unfold trip_k0_t1.sl.r_8; rw [eb]; exact pay13_eq _ _ _
    have e7 : trip_k0_t1.sl.r_9 arg3 arg10 X3 X10 ⟨k, hk'⟩ = wPart (trip_k0_t1.sl.r arg10 X10 ⟨k, hk'⟩) (Scalar.addi (gBase ⟨k, hk'⟩) 24#32)
      (wCols (arg3.view.read (Elt F) X3) ⟨k, hk'⟩ 768#32 (k0_off2_inb ⟨k, hk'⟩ 6)) := by
      unfold trip_k0_t1.sl.r_9; rw [eb]; exact pay14_eq _ _ _
    rw [e1, e2, e3, e4, e5, e6, e7]
    unfold trip_k0_t1.sl.r_10 trip_k0_t1.sl.r_11
    rw [eb]
    exact pay19_eq (trip_k0_t1.sl.r arg10 X10 ⟨k, hk'⟩) (gBase ⟨k, hk'⟩) _ _ _ _ _ _ _ _ _ _

end Cert.KernelIdeal.Mm
-- ==== Proof.Mm.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Mm.Acc

/-!
The run of the matmul kernel's body at one grid point, over any buffers: the loads and stores executed, and what each
buffer then holds.
-/

@[expose] public section

set_option maxRecDepth 16384

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

set_option maxHeartbeats 4000000 in
/-- The body at a grid point: the blocks of `y` and of the codes are left as stated, the kept scale words updated, and at
    the last column block the scale bytes written. -/
theorem run (c : Dev nD) (i : grid0.Coords) (arg2 : Memref sig .tc .vmem S512x16384 .fp8e4m3) (harg2 : arg2.IsWhole) (arg3 : Memref sig .tc .vmem S512x16384 .fp8e4m3) (harg3 : arg3.IsWhole) (arg4 : Memref sig .tc .vmem S512x512 .i8) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x512 .bf16) (harg7 : arg7.IsWhole) (arg8 : Memref sig .tc .vmem S512x512 .fp8e4m3) (harg8 : arg8.IsWhole) (arg9 : Memref sig .tc .vmem S512x160 .i8) (harg9 : arg9.IsWhole) (arg10 : Memref sig .tc .vmem S512x512 .bf16) (harg10 : arg10.IsWhole) (arg11 : Memref sig .tc .vmem S512x512 .f32) (harg11 : arg11.IsWhole) (arg12 : Memref sig .tc .vmem S256x256 .i32) (harg12 : arg12.IsWhole)
    (x2 : Vec F S512x16384 .fp8e4m3) (x3 : Vec F S512x16384 .fp8e4m3) (x4 : Vec F S512x512 .i8) (x5 : Vec F S512x512 .bf16) (x6 : Vec F S512x128 .f32)
    (x9 : Vec F S512x160 .i8) (x12 : Vec F S256x256 .i32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ owns (c : Thread nD τ) arg9 fullShare x9
        ∗ (∃ d, owns (c : Thread nD τ) arg10 fullShare d) ∗ (∃ d, owns (c : Thread nD τ) arg11 fullShare d) ∗ owns (c : Thread nD τ) arg12 fullShare x12
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (yBlk x2 x3 x4 x5 x6) ∗ owns (c : Thread nD τ) arg8 fullShare (cBlk x2 x3 x4 x5 x6)
            ∗ owns (c : Thread nD τ) arg9 fullShare (if k0_cond3 i = 1#1 then ysOf (F := F) (newWords (i 1).val (comb x2 x3 x4 x5 x6) x12) else x9)
            ∗ (∃ d, owns (c : Thread nD τ) arg10 fullShare d) ∗ (∃ d, owns (c : Thread nD τ) arg11 fullShare d) ∗ owns (c : Thread nD τ) arg12 fullShare (newWords (i 1).val (comb x2 x3 x4 x5 x6) x12)) -∗ K ⟨⟩))
      ⊢ wp frame (wpE (defs₀ (F := F)) 𝒱₀ c none) E (cc0_mm i arg2 harg2 arg3 harg3 arg4 harg4 arg5 harg5 arg6 harg6 arg7 harg7 arg8 harg8 arg9 harg9 arg10 harg10 arg11 harg11 arg12 harg12) K := by
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg9.eq_unread hf9; obtain rfl := harg12.eq_unread hf12
  sl_unfold [cc0_mm]
  sl_exec!
  have hs : arg10.view.read (Elt F) (arg10.view.writes (Elt F) arg10.view.junk (run.sl.H10_1 c arg4 harg4 x4)) = sbOf x4 := by
    unfold run.sl.H10_1
    rw [View.read_writes_full, View.readAt_full, harg4.read_unread]
  have hacc : arg11.view.read (Elt F) (arg11.view.writes (Elt F) arg11.view.junk
      (pb_k0_t1 𝒱₀ c none i arg2 harg2 arg3 harg3 arg4 harg4 arg5 harg5 arg6 harg6 arg7 harg7 arg8 harg8 arg9 harg9 arg10 harg10 arg11 harg11 arg12 harg12 (harg2.unread x2) (harg3.unread x3)
          (arg10.view.writes (Elt F) arg10.view.junk (run.sl.H10_1 c arg4 harg4 x4))
          (arg11.view.writes (Elt F) arg11.view.junk run.sl.H11_1)
          (Scf.trips k0_t1_loop.lb k0_t1_loop.ub k0_t1_loop.st) ++ run.sl.H11_1)) = acc x2 x3 (sbOf x4) k0_t1_loop.trips := by
    rw [View.writes_append, read_acc c i arg2 harg2 arg3 harg3 arg4 harg4 arg5 harg5 arg6 harg6 arg7 harg7 arg8 harg8 arg9 harg9 arg10 harg10 arg11 harg11 arg12 harg12 _ _ _ _ (by unfold run.sl.H11_1; rw [View.read_writes_full]) _ le_rfl, hs, harg2.read_unread, harg3.read_unread]
  have hy0 : yTile (run.sl.v17 c i arg2 harg2 arg3 harg3 arg4 harg4 arg5 harg5 arg6 harg6 arg7 harg7 arg8 harg8 arg9 harg9 arg10 harg10 arg11 harg11 arg12 harg12 x2 x3 x4) (View.readAt (Elt F) arg6.view (Rect.unit ![0, 0] S512x128.size inb_S512x128_S512x128_0_0).toLoadRect (harg6.unread x6)) (View.readAt (Elt F) arg5.view (Rect.unit (s := S512x512) ![0, 0] S512x128.size inb_S512x512_S512x128_0_0).toLoadRect (harg5.unread x5)) = yAt x2 x3 x4 x5 x6 0 := by
    unfold yAt
    have e5 := readAt_cols arg5.view (harg5.unread x5) 0 0 rfl inb_S512x512_S512x128_0_0
    rw [harg5.read_unread] at e5
    have e11 : run.sl.v17 c i arg2 harg2 arg3 harg3 arg4 harg4 arg5 harg5 arg6 harg6 arg7 harg7 arg8 harg8 arg9 harg9 arg10 harg10 arg11 harg11 arg12 harg12 x2 x3 x4 = cols (acc x2 x3 (sbOf x4) k0_t1_loop.trips) 0 :=
      (readAt_cols arg11.view _ 0 0 rfl inb_S512x512_S512x128_0_0).trans (by rw [hacc])
    rw [View.readAt_full, harg6.read_unread, e5, e11]
  have hy1 : yTile (run.sl.v176 c i arg2 harg2 arg3 harg3 arg4 harg4 arg5 harg5 arg6 harg6 arg7 harg7 arg8 harg8 arg9 harg9 arg10 harg10 arg11 harg11 arg12 harg12 x2 x3 x4) (View.readAt (Elt F) arg6.view (Rect.unit ![0, 0] S512x128.size inb_S512x128_S512x128_0_0).toLoadRect (harg6.unread x6)) (View.readAt (Elt F) arg5.view (Rect.unit (s := S512x512) ![0, 128] S512x128.size inb_S512x512_S512x128_0_128).toLoadRect (harg5.unread x5)) = yAt x2 x3 x4 x5 x6 1 := by
    unfold yAt
    have e5 := readAt_cols arg5.view (harg5.unread x5) 1 128 rfl inb_S512x512_S512x128_0_128
    rw [harg5.read_unread] at e5
    have e11 : run.sl.v176 c i arg2 harg2 arg3 harg3 arg4 harg4 arg5 harg5 arg6 harg6 arg7 harg7 arg8 harg8 arg9 harg9 arg10 harg10 arg11 harg11 arg12 harg12 x2 x3 x4 = cols (acc x2 x3 (sbOf x4) k0_t1_loop.trips) 1 :=
      (readAt_cols arg11.view _ 1 128 rfl inb_S512x512_S512x128_0_128).trans (by rw [hacc])
    rw [View.readAt_full, harg6.read_unread, e5, e11]
  have hy2 : yTile (run.sl.v338 c i arg2 harg2 arg3 harg3 arg4 harg4 arg5 harg5 arg6 harg6 arg7 harg7 arg8 harg8 arg9 harg9 arg10 harg10 arg11 harg11 arg12 harg12 x2 x3 x4) (View.readAt (Elt F) arg6.view (Rect.unit ![0, 0] S512x128.size inb_S512x128_S512x128_0_0).toLoadRect (harg6.unread x6)) (View.readAt (Elt F) arg5.view (Rect.unit (s := S512x512) ![0, 256] S512x128.size inb_S512x512_S512x128_0_256).toLoadRect (harg5.unread x5)) = yAt x2 x3 x4 x5 x6 2 := by
    unfold yAt
    have e5 := readAt_cols arg5.view (harg5.unread x5) 2 256 rfl inb_S512x512_S512x128_0_256
    rw [harg5.read_unread] at e5
    have e11 : run.sl.v338 c i arg2 harg2 arg3 harg3 arg4 harg4 arg5 harg5 arg6 harg6 arg7 harg7 arg8 harg8 arg9 harg9 arg10 harg10 arg11 harg11 arg12 harg12 x2 x3 x4 = cols (acc x2 x3 (sbOf x4) k0_t1_loop.trips) 2 :=
      (readAt_cols arg11.view _ 2 256 rfl inb_S512x512_S512x128_0_256).trans (by rw [hacc])
    rw [View.readAt_full, harg6.read_unread, e5, e11]
  have hy3 : yTile (run.sl.v500 c i arg2 harg2 arg3 harg3 arg4 harg4 arg5 harg5 arg6 harg6 arg7 harg7 arg8 harg8 arg9 harg9 arg10 harg10 arg11 harg11 arg12 harg12 x2 x3 x4) (View.readAt (Elt F) arg6.view (Rect.unit ![0, 0] S512x128.size inb_S512x128_S512x128_0_0).toLoadRect (harg6.unread x6)) (View.readAt (Elt F) arg5.view (Rect.unit (s := S512x512) ![0, 384] S512x128.size inb_S512x512_S512x128_0_384).toLoadRect (harg5.unread x5)) = yAt x2 x3 x4 x5 x6 3 := by
    unfold yAt
    have e5 := readAt_cols arg5.view (harg5.unread x5) 3 384 rfl inb_S512x512_S512x128_0_384
    rw [harg5.read_unread] at e5
    have e11 : run.sl.v500 c i arg2 harg2 arg3 harg3 arg4 harg4 arg5 harg5 arg6 harg6 arg7 harg7 arg8 harg8 arg9 harg9 arg10 harg10 arg11 harg11 arg12 harg12 x2 x3 x4 = cols (acc x2 x3 (sbOf x4) k0_t1_loop.trips) 3 :=
      (readAt_cols arg11.view _ 3 384 rfl inb_S512x512_S512x128_0_384).trans (by rw [hacc])
    rw [View.readAt_full, harg6.read_unread, e5, e11]

  have hc0 : k0_pay35 (run.sl.r c i arg2 harg2 arg3 harg3 arg4 harg4 arg5 harg5 arg6 harg6 arg7 harg7 arg8 harg8 arg9 harg9 arg10 harg10 arg11 harg11 arg12 harg12 x2 x3 x4 x5 x6) (run.sl.r_5 c i arg2 harg2 arg3 harg3 arg4 harg4 arg5 harg5 arg6 harg6 arg7 harg7 arg8 harg8 arg9 harg9 arg10 harg10 arg11 harg11 arg12 harg12 x2 x3 x4 x5 x6) k0_pay33 = codes (yAt x2 x3 x4 x5 x6 0) := by rw [← hy0]; rfl
  have hc1 : k0_pay45 (run.sl.r_7 c i arg2 harg2 arg3 harg3 arg4 harg4 arg5 harg5 arg6 harg6 arg7 harg7 arg8 harg8 arg9 harg9 arg10 harg10 arg11 harg11 arg12 harg12 x2 x3 x4 x5 x6) (run.sl.r_14 c i arg2 harg2 arg3 harg3 arg4 harg4 arg5 harg5 arg6 harg6 arg7 harg7 arg8 harg8 arg9 harg9 arg10 harg10 arg11 harg11 arg12 harg12 x2 x3 x4 x5 x6) 2197848832#32 = codes (yAt x2 x3 x4 x5 x6 1) := by rw [← hy1]; rfl
  have hc2 : k0_pay60 (run.sl.r_25 c i arg2 harg2 arg3 harg3 arg4 harg4 arg5 harg5 arg6 harg6 arg7 harg7 arg8 harg8 arg9 harg9 arg10 harg10 arg11 harg11 arg12 harg12 x2 x3 x4 x5 x6) run.sl.cst_155 run.sl.cst_156 = codes (yAt x2 x3 x4 x5 x6 2) := by rw [← hy2]; rfl
  have hc3 : run.sl.r_38 c i arg2 harg2 arg3 harg3 arg4 harg4 arg5 harg5 arg6 harg6 arg7 harg7 arg8 harg8 arg9 harg9 arg10 harg10 arg11 harg11 arg12 harg12 x2 x3 x4 x5 x6 = codes (yAt x2 x3 x4 x5 x6 3) := by rw [← hy3]; rfl
  have hcomb : run.sl.v678 c i arg2 harg2 arg3 harg3 arg4 harg4 arg5 harg5 arg6 harg6 arg7 harg7 arg8 harg8 arg9 harg9 arg10 harg10 arg11 harg11 arg12 harg12 x2 x3 x4 x5 x6 = comb x2 x3 x4 x5 x6 := by unfold comb; rw [← hy0, ← hy1, ← hy2, ← hy3]; rfl
  have hm : run.sl.v692 i = k0_pay76 (BitVec.ofNat 32 (i 1).val) (iota .tc S256x128 32 [1] iota_S256x128_d1_w32) := rfl
  have b0 : ∀ n : Fin 10, (Scalar.cmpi .ne (Scalar.extui (Scalar.cmpi .eq (q8 (BitVec.ofNat 32 n.val)) 0#32) : BitVec 32) 0#32 = 1#1) ↔ n.val / 8 = 0 := by
    decide +kernel
  have b1 : ∀ n : Fin 10, (Scalar.cmpi .ne (Scalar.extui (Scalar.cmpi .eq (q8 (BitVec.ofNat 32 n.val)) 1#32) : BitVec 32) 0#32 = 1#1) ↔ n.val / 8 = 1 := by
    decide +kernel
  have h12 : ∀ f12, f12 = (if hc : run.sl.v732 i = 1#1 then
      arg12.view.writes (Elt F)
        (if hc : run.sl.v712 i = 1#1 then
          arg12.view.writes (Elt F) (harg12.unread x12)
            [⟨Rect.unit (s := S256x256) ![0, 0] S256x128.size inb_S256x256_S256x128_0_0,
                k0_pay77 (F := F) (run.sl.v678 c i arg2 harg2 arg3 harg3 arg4 harg4 arg5 harg5 arg6 harg6 arg7 harg7 arg8 harg8 arg9 harg9 arg10 harg10 arg11 harg11 arg12 harg12 x2 x3 x4 x5 x6) (run.sl.v692 i)
                  (View.readAt (Elt F) arg12.view (Rect.unit (s := S256x256) ![0, 0] S256x128.size inb_S256x256_S256x128_0_0).toLoadRect
                    (harg12.unread x12))⟩]
        else harg12.unread x12)
        [⟨Rect.unit (s := S256x256) ![0, 128] S256x128.size inb_S256x256_S256x128_0_128,
            k0_pay1 (F := F) (run.sl.v678 c i arg2 harg2 arg3 harg3 arg4 harg4 arg5 harg5 arg6 harg6 arg7 harg7 arg8 harg8 arg9 harg9 arg10 harg10 arg11 harg11 arg12 harg12 x2 x3 x4 x5 x6) (run.sl.v692 i) (run.sl.v736 c i arg2 harg2 arg3 harg3 arg4 harg4 arg5 harg5 arg6 harg6 arg7 harg7 arg8 harg8 arg9 harg9 arg10 harg10 arg11 harg11 arg12 harg12 x2 x3 x4 x5 x6 x12)⟩]
    else
      if hc : run.sl.v712 i = 1#1 then
        arg12.view.writes (Elt F) (harg12.unread x12)
          [⟨Rect.unit (s := S256x256) ![0, 0] S256x128.size inb_S256x256_S256x128_0_0,
              k0_pay77 (F := F) (run.sl.v678 c i arg2 harg2 arg3 harg3 arg4 harg4 arg5 harg5 arg6 harg6 arg7 harg7 arg8 harg8 arg9 harg9 arg10 harg10 arg11 harg11 arg12 harg12 x2 x3 x4 x5 x6) (run.sl.v692 i)
                (View.readAt (Elt F) arg12.view (Rect.unit (s := S256x256) ![0, 0] S256x128.size inb_S256x256_S256x128_0_0).toLoadRect
                  (harg12.unread x12))⟩]
      else harg12.unread x12) → arg12.view.read (Elt F) f12 = newWords (i 1).val (comb x2 x3 x4 x5 x6) x12 := by
    intro f12 hf
    rw [hf]
    have hlt : (i 1).val < 10 := (i 1).isLt
    by_cases hb : (i 1).val / 8 = 0
    · have g0 : run.sl.v712 i = 1#1 := (b0 (i 1)).2 hb
      have g1 : ¬ run.sl.v732 i = 1#1 := fun h => by have := (b1 (i 1)).1 h; omega
      rw [dif_neg g1, dif_pos g0, hm, hcomb]
      refine (read_newWords arg12.view _ (i 1) 0 (by omega) _ _ _).trans ?_
      rw [harg12.read_unread]
    · have g0 : ¬ run.sl.v712 i = 1#1 := fun h => hb ((b0 (i 1)).1 h)
      have g1 : run.sl.v732 i = 1#1 := (b1 (i 1)).2 (by omega)
      unfold run.sl.v736
      rw [dif_pos g1, dif_neg g0, hm, hcomb]
      refine (read_newWords arg12.view _ (i 1) 128 (by omega) _ _ _).trans ?_
      rw [harg12.read_unread]
  sl_step
  iapply Hk
  isplitl [H2]; · iexists _; isplitr; swap; iexact H2; ipureintro; exact harg2.read_unread x2
  isplitl [H3]; · iexists _; isplitr; swap; iexact H3; ipureintro; exact harg3.read_unread x3
  isplitl [H4]; · iexists _; isplitr; swap; iexact H4; ipureintro; exact harg4.read_unread x4
  isplitl [H5]; · iexists _; isplitr; swap; iexact H5; ipureintro; exact harg5.read_unread x5
  isplitl [H6]; · iexists _; isplitr; swap; iexact H6; ipureintro; exact harg6.read_unread x6
  isplitl [H7]
  · iexists _; isplitr; swap; iexact H7; ipureintro
    unfold yBlk
    rw [← read_glue arg7.view arg7.view.junk (yAt x2 x3 x4 x5 x6) inb_S512x512_S512x128_0_0 inb_S512x512_S512x128_0_128 inb_S512x512_S512x128_0_256 inb_S512x512_S512x128_0_384, ← hy0, ← hy1, ← hy2, ← hy3]
    rfl
  isplitl [H8]
  · iexists _; isplitr; swap; iexact H8; ipureintro
    unfold cBlk
    rw [← read_glue arg8.view arg8.view.junk (fun j => codes (yAt x2 x3 x4 x5 x6 j)) inb_S512x512_S512x128_0_0 inb_S512x512_S512x128_0_128 inb_S512x512_S512x128_0_256 inb_S512x512_S512x128_0_384, ← hc0, ← hc1, ← hc2, ← hc3]
    rfl
  isplitl [H9]
  · iexists _; isplitr; swap; iexact H9; ipureintro
    by_cases hc : k0_cond3 i = 1#1
    · rw [dif_pos hc, if_pos hc]
      refine read_ysOf arg9.view _ _ _ _ _ _ (by decide) (by decide) ?_ ?_
      · unfold run.sl.v736_1
        rw [View.readAt_unit _ _ _ rfl (by decide)]
        congr 1
        exact h12 _ rfl
      · unfold run.sl.v745
        rw [View.readAt_unit _ _ _ rfl (by decide)]
        congr 1
        exact h12 _ rfl
    · rw [dif_neg hc, if_neg hc, harg9.read_unread]
  isplitl [H10]; · iexists _; iexists _; isplitr; swap; iexact H10; ipureintro; rfl
  isplitl [H11]; · iexists _; iexists _; isplitr; swap; iexact H11; ipureintro; rfl
  iexists _; isplitr; swap; iexact H12; ipureintro; exact h12 _ rfl

end Cert.KernelIdeal.Mm
-- ==== Proof.Mm.YsBytes.lean ====
module

public import proofs.«01_k».proof.Proof.Mm.Values
public import Idealize.ShloMosaic.Lib.Tactic
public import Idealize.ShloMosaic.Lib.BitcastPair

/-!
The scale bytes of a row block read at an index: the byte of a halfword of the kept words.
-/

@[expose] public section

set_option maxRecDepth 16384

noncomputable section

namespace Cert.KernelIdeal.Mm

open Cert.KernelIdeal Cert.KernelIdeal.Gen
open Idealize.ShloMosaic

variable {F : FTy → Type} [FloatOps F]

/-- Words read as halfwords: row `r` is half `r mod 2` of word row `r / 2`. -/
theorem half_apply (w : S256x128.Idx → BitVec 32) (r : Fin 512) (l : Fin 128) :
    bitcast S512x128 16 w bitcasts_S256x128_w32_S512x128_w16 (ix2 r l)
      = (w (ix2 (n0 := 256) ⟨r.val / 2, by omega⟩ l)).extractLsb' (16 * (r.val % 2)) 16 := by
  rw [bitcast_32_16]
  congr 1
  congr 1
  funext a
  match a with
  | ⟨0, _⟩ => rfl
  | ⟨1, _⟩ => rfl

/-- Halfwords read as words. -/
theorem word_apply (x : S512x128.Idx → BitVec 16) (r : Fin 256) (l : Fin 128) :
    bitcast S256x128 32 x bitcasts_S512x128_w16_S256x128_w32 (ix2 r l)
      = x (ix2 (n0 := 512) ⟨2 * r.val + 1, by omega⟩ l) ++ x (ix2 (n0 := 512) ⟨2 * r.val, by omega⟩ l) := by
  rw [bitcast_16_32]
  congr 1
  · congr 1
    funext a
    match a with
    | ⟨0, _⟩ => rfl
    | ⟨1, _⟩ => rfl
  · congr 1
    funext a
    match a with
    | ⟨0, _⟩ => rfl
    | ⟨1, _⟩ => rfl

/-- The scale byte of a halfword that holds an exponent field. -/
def byteOf (b : BitVec 16) : BitVec 8 :=
  BitVec.setWidth 8 (IntOp.subi (IntOp.shrsi .vector (BitVec.signExtend 32 b) 7#32) 8#32)

theorem pay2_apply (w : Vec F S256x128 .i32) (r : Fin 512) (l : Fin 128) :
    k0_pay2 (F := F) w (ix2 r l) = byteOf ((w (ix2 (n0 := 256) ⟨r.val / 2, by omega⟩ l)).extractLsb' (16 * (r.val % 2)) 16) := by
  rw [← half_apply]
  pointwise [k0_pay2]
  rfl

theorem pay3_apply (w : Vec F S256x128 .i32) (r : Fin 512) (l : Fin 32) :
    k0_pay3 (F := F) w (ix2 r l) = byteOf ((w (ix2 (n0 := 256) (n1 := 128) ⟨r.val / 2, by omega⟩ ⟨l.val, by omega⟩)).extractLsb' (16 * (r.val % 2)) 16) := by
  rw [← half_apply]
  pointwise [k0_pay3]
  rfl

/-- The scale bytes at an index. -/
theorem ysOf_apply (x : S256x256.Idx → BitVec 32) (r : Fin 512) (l : Fin 160) :
    ysOf (F := F) x (ix2 r l)
      = byteOf ((x (ix2 (n0 := 256) (n1 := 256) ⟨r.val / 2, by omega⟩ ⟨l.val, by omega⟩)).extractLsb' (16 * (r.val % 2)) 16) := by
  unfold ysOf
  by_cases h : l.val < 128
  · exact (dif_pos h).trans (pay2_apply _ r ⟨l.val, h⟩)
  · refine (dif_neg h).trans ((pay3_apply _ r ⟨l.val - 128, by omega⟩).trans ?_)
    have e : (⟨l.val - 128 + 128, by omega⟩ : Fin 256) = ⟨l.val, by omega⟩ := Fin.ext (by show l.val - 128 + 128 = l.val; omega)
    exact congrArg (fun q => byteOf ((x (ix2 (n0 := 256) (n1 := 256) ⟨r.val / 2, by omega⟩ q)).extractLsb' (16 * (r.val % 2)) 16)) e

/-- The scale bytes read the kept words at the first 160 lanes only. -/
theorem ysOf_congr (x x' : S256x256.Idx → BitVec 32) (h : ∀ p : S256x256.Idx, (p 1).val < 160 → x p = x' p) :
    ysOf (F := F) x = ysOf (F := F) x' := by
  funext p
  obtain ⟨r, l, rfl⟩ : ∃ (r : Fin 512) (l : Fin 160), p = ix2 r l := ⟨p 0, p 1, (ix2_eta (n0 := 512) (n1 := 160) p).symm⟩
  rw [ysOf_apply, ysOf_apply, h _ l.isLt]

end Cert.KernelIdeal.Mm
-- ==== Proof.Mm.Dat.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Mm.Run
public import proofs.«01_k».proof.Proof.Mm.YsBytes
public import proofs.«01_k».proof.Proof.Gen.KernelIdeal.Points
public import proofs.«01_k».proof.Proof.Gen.KernelIdeal.Launch

/-!
The pipeline of the matmul kernel: what each window's buffer holds after every grid point, the scale words kept across
the ten column blocks of a row block, and the run of the whole program.
-/

@[expose] public section

set_option maxRecDepth 16384

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `y`, the block of codes and the combined scale words of point `t`. -/
def yAtP (c : Dev nD) (t : Fin cfg0.N) : Vec F S512x512 .bf16 :=
  yBlk (iblk m c 0 t) (iblk m c 1 t) (iblk m c 2 t) (iblk m c 3 t) (iblk m c 4 t)
def cAtP (c : Dev nD) (t : Fin cfg0.N) : Vec F S512x512 .fp8e4m3 :=
  cBlk (iblk m c 0 t) (iblk m c 1 t) (iblk m c 2 t) (iblk m c 3 t) (iblk m c 4 t)
def combAt (c : Dev nD) (t : Fin cfg0.N) : IVec S256x128 32 :=
  comb (F := F) (iblk m c 0 t) (iblk m c 1 t) (iblk m c 2 t) (iblk m c 3 t) (iblk m c 4 t)

/-- The combined words of point `n`, none past the grid. -/
def combN (c : Dev nD) (n : ℕ) : IVec S256x128 32 := if h : n < cfg0.N then combAt m c ⟨n, h⟩ else fun _ => 0#32

/-- The words kept for row block `q`: 16 lanes from each column block. -/
def kept (c : Dev nD) (q : ℕ) : S256x256.Idx → BitVec 32 := fun p =>
  combN m c (10 * q + (p 1).val / 16) (ix2 (n0 := 256) (n1 := 128) (p 0) ⟨(p 1).val % 128, Nat.mod_lt _ (by decide)⟩)

/-- Before point `n` the lanes of the row block's earlier column blocks are kept. -/
def Kept (c : Dev nD) (n : ℕ) (f : S256x256.Idx → BitVec 32) : Prop :=
  ∀ p, (p 1).val < 16 * (n % 10) → f p = kept m c (n / 10) p

theorem newWords_kept (c : Dev nD) (t : Fin cfg0.N) (f : S256x256.Idx → BitVec 32) (hf : Kept m c t.val f) (p : S256x256.Idx)
    (hp : (p 1).val < 16 * (t.val % 10 + 1)) : newWords (t.val % 10) (combAt m c t) f p = kept m c (t.val / 10) p := by
  unfold newWords
  by_cases h : (p 1).val / 16 = t.val % 10
  · rw [if_pos h]
    unfold kept combN
    have e : 10 * (t.val / 10) + (p 1).val / 16 = t.val := by omega
    rw [dif_pos (by rw [e]; exact t.isLt)]
    have e' : (⟨10 * (t.val / 10) + (p 1).val / 16, by rw [e]; exact t.isLt⟩ : Fin cfg0.N) = t := Fin.ext e
    rw [e']
  · rw [if_neg h]
    exact hf p (by omega)

theorem Kept.step (c : Dev nD) (t : Fin cfg0.N) (f : S256x256.Idx → BitVec 32) (hf : Kept m c t.val f) :
    Kept m c (t.val + 1) (newWords (t.val % 10) (combAt m c t) f) := by
  intro p hp
  have e : (t.val + 1) / 10 = t.val / 10 := by omega
  rw [e]
  exact newWords_kept m c t f hf p (by omega)

/-- What the scratch buffers hold before point `n`. -/
def inv (c : Dev nD) (n : ℕ) : sProp 𝕄 :=
  iprop((∃ d, owns (c : Thread nD τ) (Memref.whole cc0_scratch0) fullShare d)
    ∗ (∃ d, owns (c : Thread nD τ) (Memref.whole cc0_scratch1) fullShare d)
    ∗ (∃ f, ⌜Kept m c n f⌝ ∗ owns (c : Thread nD τ) (Memref.whole cc0_scratch2) fullShare f) ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAtP m c t
    | ⟨6, _⟩ => cAtP m c t
    | ⟨7, _⟩ => ysOf (F := F) (kept m c (t.val / 10))
  Φ n := inv m c n.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAtP m c t := by dsimp only [dats]
theorem after0_6 (c : Dev nD) (t : Fin cfg0.N) : (dats m 0 c).after 6 t = cAtP m c t := by dsimp only [dats]
theorem after0_7 (c : Dev nD) (t : Fin cfg0.N) : (dats m 0 c).after 7 t = ysOf (F := F) (kept m c (t.val / 10)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The column block of a point, and when it is the last. -/
theorem coord1 : ∀ t : Fin cfg0.N, ((grid0.coords t) 1).val = t.val % 10 := by decide +kernel
theorem cond3_iff : ∀ t : Fin cfg0.N, k0_cond3 (grid0.coords t) = 1#1 ↔ t.val % 10 = 9 := by decide +kernel

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3, after0_4,
    after0_5, after0_6, after0_7]
  unfold inv
  iintro ⟨⟨HA, HB, ⟨%f, %hf, HC⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hk := hf.step m c t f
  have hl := newWords_kept m c t f hf
  iapply (run c (grid0.coords t) _ _ _ _ _ _ _ _ _ _ _ _ _ _ _ _ _ _ _ _ _ _ (iblk m c 0 t) (iblk m c 1 t) (iblk m c 2 t) (iblk m c 3 t) (iblk m c 4 t) ((dats m 0 c).before 7 t d7) f Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HA]; · iexact HA
  isplitl [HB]; · iexact HB
  isplitl [HC]; · iexact HC
  iintro ⟨H0, H1, H2, H3, H4, H5, H6, H7, HA, HB, HC⟩
  rw [coord1 t]
  isplitl [HA HB HC HP]
  · isplitl [HA]; · iexact HA
    isplitl [HB]; · iexact HB
    isplitl [HC]
    · iexists _
      isplitr; swap; · iexact HC
      ipureintro; exact hk
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h9 : t.val % 10 = 9
  · have hc := (cond3_iff t).2 h9
    have hi : idle0 7 (grid0.coords t) = false := by
      show (!(k0_cond3 (grid0.coords t) == 1#1)) = false
      rw [hc]; rfl
    have hy : ysOf (F := F) (newWords (t.val % 10) (combAt m c t) f) = ysOf (F := F) (kept m c (t.val / 10)) :=
      ysOf_congr _ _ fun p hp => hl p (by omega)
    rw [hi, if_pos hc, ← hy]
    iexact H7
  · have hc : ¬ k0_cond3 (grid0.coords t) = 1#1 := fun h => h9 ((cond3_iff t).1 h)
    have hi : idle0 7 (grid0.coords t) = true := by
      show (!(k0_cond3 (grid0.coords t) == 1#1)) = true
      rw [beq_eq_false_iff_ne.2 hc]; rfl
    have hw : (win0 7).flush t = false := by
      rcases hb : (win0 7).flush t with _ | _
      · rfl
      · exact absurd ((flush0_7 t).1 hb) h9
    rw [hi, if_neg hc]
    dsimp only
    rw [hw]
    iexists _
    iexact H7

/-- The scratch buffers as the launch hands them out, and as it takes them back. -/
theorem inv_in (c : Dev nD) : Pipeline.ΦA spec0 c ⊢ (inv m c 0 : sProp 𝕄) := by
  unfold Pipeline.ΦA inv
  rw [scopedRest0_eq]
  iintro ⟨⟨⟨%a, HA⟩, ⟨%b, HB⟩, ⟨%f, HC⟩⟩, HP⟩
  isplitl [HA]; · iexists a; rw [owns_whole]; iexact HA
  isplitl [HB]; · iexists b; rw [owns_whole]; iexact HB
  isplitl [HC]
  · iexists f
    isplitr
    · ipureintro
      intro p hp
      exact absurd hp (by omega)
    rw [owns_whole]; iexact HC
  iexact HP

theorem inv_out (c : Dev nD) (n : ℕ) : (inv m c n : sProp 𝕄) ⊢ Pipeline.ΦA spec0 c := by
  unfold Pipeline.ΦA inv
  rw [scopedRest0_eq]
  simp only [owns_whole]
  iintro ⟨⟨%a, HA⟩, ⟨%b, HB⟩, ⟨%f, %hf, HC⟩, HP⟩
  isplitl [HA HB HC]
  · isplitl [HA]; · iexists a; iexact HA
    isplitl [HB]; · iexists b; iexact HB
    iexists f; iexact HC
  iexact HP

set_option backward.isDefEq.respectTransparency.types false in
/-- The run of the whole program: every result array ends with the blocks the points wrote. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose)
    (hshare := fun c => (dats m 0 c).share_full fun _ => rfl) (howed := fun _ _ => rfl)
    (V := V m) (hmain := hmain m 𝒱₀) (hA := fun _ _ => rfl)
    (hin := fun c => inv_in m c) (hout := fun c => inv_out m c _)

end Cert.KernelIdeal.Mm
-- ==== Proof.Val.Field.lean ====
module

public import Idealize.ShloMosaic.PureOps
public import Idealize.ShloMosaic.Lib.Tactic
public import Idealize.ShloMosaic.Lib.Pointwise

/-!
The exponent field of a block maximum, as mathematics: powers of two and thresholds as bit patterns, the count of the
thresholds reached, and the bisection that finds the same number.
-/

@[expose] public section

set_option maxRecDepth 16384

noncomputable section

namespace Cert.Val

open Idealize.ShloMosaic

/-- A power of two with biased exponent `f`. -/
def pw (f : ℕ) : EReal := (((2 : ℝ) ^ ((f : ℤ) - 127) : ℝ) : EReal)

/-- A positive normal pattern's value. -/
theorem ieee_normal (e m : ℕ) {w : ℕ} (b : BitVec w) (E T : ℕ) (h1 : b.extractLsb' (e + m) 1 = 0#1) (h2 : (b.extractLsb' m e).toNat = E)
    (h3 : (b.extractLsb' 0 m).toNat = T) (hE : E ≠ 2 ^ e - 1) (h0 : E ≠ 0) :
    Ideal.ieee e m b = ((((2 : ℝ) ^ m + T) * (2 : ℝ) ^ ((E : ℤ) - (2 ^ (e - 1) - 1) - m) : ℝ) : EReal) := by
  unfold Ideal.ieee
  simp only [h1, h2, h3]
  rw [if_neg hE, if_neg h0, EReal.coe_eq_coe_iff]
  have : ((0#1 : BitVec 1) == 1#1) = false := rfl
  rw [this]
  push_cast
  simp

theorem f32_pw (f : ℕ) (h1 : 1 ≤ f) (h2 : f ≤ 254) : Ideal.ofBits .f32 (BitVec.ofNat 32 f <<< 23) = pw f := by
  have key : ∀ f : Fin 256, (BitVec.ofNat 32 f.val <<< 23).extractLsb' 31 1 = 0#1
      ∧ ((BitVec.ofNat 32 f.val <<< 23).extractLsb' 23 8).toNat = f.val
      ∧ ((BitVec.ofNat 32 f.val <<< 23).extractLsb' 0 23).toNat = 0 := by decide +kernel
  obtain ⟨k1, k2, k3⟩ := key ⟨f, by omega⟩
  dsimp only at k1 k2 k3
  refine (ieee_normal 8 23 _ f 0 k1 k2 k3 (by omega) (by omega)).trans ?_
  unfold pw
  rw [EReal.coe_eq_coe_iff]
  have : ((f : ℤ) - 127) = 23 + ((f : ℤ) - 150) := by ring
  have e2 : ((f : ℤ) - (2 ^ (8 - 1) - 1) - (23 : ℕ)) = (f : ℤ) - 150 := by norm_num; ring
  rw [this, zpow_add₀ (by norm_num), e2]
  norm_num

theorem bf16_pw (f : ℕ) (h1 : 1 ≤ f) (h2 : f ≤ 254) : Ideal.ofBits .bf16 (BitVec.ofNat 16 f <<< 7) = pw f := by
  have key : ∀ f : Fin 255, (BitVec.ofNat 16 f.val <<< 7).extractLsb' 15 1 = 0#1
      ∧ ((BitVec.ofNat 16 f.val <<< 7).extractLsb' 7 8).toNat = f.val
      ∧ ((BitVec.ofNat 16 f.val <<< 7).extractLsb' 0 7).toNat = 0 := by decide +kernel
  obtain ⟨k1, k2, k3⟩ := key ⟨f, by omega⟩
  dsimp only at k1 k2 k3
  refine (ieee_normal 8 7 _ f 0 k1 k2 k3 (by omega) (by omega)).trans ?_
  unfold pw
  rw [EReal.coe_eq_coe_iff]
  have : ((f : ℤ) - 127) = 7 + ((f : ℤ) - 134) := by ring
  have e2 : ((f : ℤ) - (2 ^ (8 - 1) - 1) - (7 : ℕ)) = (f : ℤ) - 134 := by norm_num; ring
  rw [this, zpow_add₀ (by norm_num), e2]
  norm_num

/-- The threshold whose bits are those of `2^(j-127)` less a quarter of its fraction's range. -/
def thr (j : ℕ) : EReal := Ideal.ofBits .f32 (BitVec.ofNat 32 j <<< 23 - 2097152#32)

theorem thr_eq (j : ℕ) (h1 : 2 ≤ j) (h2 : j ≤ 255) : thr j = (((448 : ℝ) * 2 ^ ((j : ℤ) - 136) : ℝ) : EReal) := by
  have key : ∀ f : Fin 256, 2 ≤ f.val → (BitVec.ofNat 32 f.val <<< 23 - 2097152#32).extractLsb' 31 1 = 0#1
      ∧ ((BitVec.ofNat 32 f.val <<< 23 - 2097152#32).extractLsb' 23 8).toNat = f.val - 1
      ∧ ((BitVec.ofNat 32 f.val <<< 23 - 2097152#32).extractLsb' 0 23).toNat = 6291456 := by decide +kernel
  obtain ⟨k1, k2, k3⟩ := key ⟨j, by omega⟩ h1
  dsimp only at k1 k2 k3
  refine (ieee_normal 8 23 _ (j - 1) 6291456 k1 k2 k3 (by omega) (by omega)).trans ?_
  rw [EReal.coe_eq_coe_iff]
  have : ((j : ℤ) - 136) = 15 + ((j : ℤ) - 151) := by ring
  have e2 : (((j - 1 : ℕ) : ℤ) - (2 ^ (8 - 1) - 1) - (23 : ℕ)) = (j : ℤ) - 151 := by
    rw [Nat.cast_sub (by omega)]; norm_num; ring
  rw [this, zpow_add₀ (by norm_num), e2]
  norm_num
  ring

theorem thr_one : thr 1 = (((6291456 : ℝ) * 2 ^ (-149 : ℤ) : ℝ) : EReal) := by
  have k1 : (BitVec.ofNat 32 1 <<< 23 - 2097152#32).extractLsb' 31 1 = 0#1 := by decide +kernel
  have k2 : ((BitVec.ofNat 32 1 <<< 23 - 2097152#32).extractLsb' 23 8).toNat = 0 := by decide +kernel
  have k3 : ((BitVec.ofNat 32 1 <<< 23 - 2097152#32).extractLsb' 0 23).toNat = 6291456 := by decide +kernel
  unfold thr Ideal.ofBits Ideal.ieee
  dsimp only
  rw [show 8 + 23 = 31 from rfl, k1, k2, k3, if_neg (by decide), if_pos rfl, EReal.coe_eq_coe_iff, show ((0#1 : BitVec 1) == 1#1) = false from rfl]
  norm_num

theorem thr_mono (i j : ℕ) (hi : 1 ≤ i) (hij : i ≤ j) (hj : j ≤ 255) : thr i ≤ thr j := by
  rcases Nat.lt_or_ge i 2 with h | h
  · obtain rfl : i = 1 := by omega
    rcases Nat.lt_or_ge j 2 with h' | h'
    · obtain rfl : j = 1 := by omega
      exact le_rfl
    · rw [thr_one, thr_eq j h' hj, EReal.coe_le_coe_iff]
      have e : (448 : ℝ) * 2 ^ ((2 : ℤ) - 136) ≤ 448 * 2 ^ ((j : ℤ) - 136) :=
        mul_le_mul_of_nonneg_left (zpow_le_zpow_right₀ (by norm_num) (by omega)) (by norm_num)
      refine le_trans ?_ e
      norm_num
  · rw [thr_eq i h (by omega), thr_eq j (by omega) hj, EReal.coe_le_coe_iff]
    exact mul_le_mul_of_nonneg_left (zpow_le_zpow_right₀ (by norm_num) (by omega)) (by norm_num)

/-- The number of the largest threshold reached. -/
theorem exists_reach (a : EReal) : ∃ N ≤ 255, ∀ j, 1 ≤ j → j ≤ 255 → (thr j ≤ a ↔ j ≤ N) := by
  classical
  refine ⟨Nat.findGreatest (fun j => 1 ≤ j ∧ thr j ≤ a) 255, Nat.findGreatest_le _, fun j h1 h2 => ⟨fun h => Nat.le_findGreatest h2 ⟨h1, h⟩, fun h => ?_⟩⟩
  have hpos : Nat.findGreatest (fun j => 1 ≤ j ∧ thr j ≤ a) 255 ≠ 0 := by omega
  have := Nat.findGreatest_of_ne_zero (P := fun j => 1 ≤ j ∧ thr j ≤ a) rfl hpos
  exact (thr_mono _ _ h1 h (Nat.findGreatest_le _)).trans this.2

/-- How many of the 246 scaled bounds `448 * 2^(k-126)` the maximum reaches. -/
def count (a : EReal) : ℕ := by
  classical
  exact (Finset.univ.filter fun k : Fin 246 => (((448 : ℝ) * 2 ^ ((k.val : ℤ) - 126) : ℝ) : EReal) ≤ a).card

theorem count_eq (a : EReal) (N : ℕ) (hN : N ≤ 255) (h : ∀ j, 1 ≤ j → j ≤ 255 → (thr j ≤ a ↔ j ≤ N)) : count a = N - 9 := by
  classical
  have e : ∀ k : Fin 246, (((448 : ℝ) * 2 ^ ((k.val : ℤ) - 126) : ℝ) : EReal) ≤ a ↔ k.val + 10 ≤ N := fun k => by
    rw [← h (k.val + 10) (by omega) (by omega), thr_eq _ (by omega) (by omega)]
    have : ((k.val + 10 : ℕ) : ℤ) - 136 = (k.val : ℤ) - 126 := by push_cast; ring
    rw [this]
  have c : ∀ N : Fin 256, (Finset.univ.filter fun k : Fin 246 => k.val + 10 ≤ N.val).card = N.val - 9 := by decide +kernel
  unfold count
  rw [← c ⟨N, by omega⟩]
  congr 1
  ext k
  simp only [Finset.mem_filter, Finset.mem_univ, true_and]
  exact e k

theorem count_le (a : EReal) : count a ≤ 246 := by
  obtain ⟨N, hN, h⟩ := exists_reach a
  rw [count_eq a N hN h]; omega

/-- The exponent field: that of exponent `n - 126`, and of exponent 8, whose scale is one, where nothing is reached. -/
def field (a : EReal) : ℕ := if count a = 0 then 135 else count a + 9

theorem field_le (a : EReal) : 10 ≤ field a ∧ field a ≤ 255 := by
  have := count_le a
  unfold field
  split <;> omega

/-- One step of the bisection on numbers. -/
def up (N b f : ℕ) : ℕ := if f + b ≤ N then f + b else f

theorem up_le (N b f : ℕ) (h : f + 2 * b ≤ 256) : up N b f + b ≤ 256 := by unfold up; split <;> omega

theorem bisect : ∀ N : Fin 256, up N.val 1 (up N.val 2 (up N.val 4 (up N.val 8 (up N.val 16 (up N.val 32 (up N.val 64 (up N.val 128 0))))))) = N.val := by
  decide +kernel

/-- One step of the bisection on words, at the maximum `a`. -/
def raiseAt (a : EReal) (b f : BitVec 32) : BitVec 32 :=
  if Ideal.ofBits .f32 ((f + b) <<< 23 - 2097152#32) ≤ a then f + b else f

theorem raiseAt_eq (a : EReal) (N : ℕ) (h : ∀ j, 1 ≤ j → j ≤ 255 → (thr j ≤ a ↔ j ≤ N)) (b f : ℕ) (hb : 1 ≤ b) (hf : f + 2 * b ≤ 256) :
    raiseAt a (BitVec.ofNat 32 b) (BitVec.ofNat 32 f) = BitVec.ofNat 32 (up N b f) := by
  unfold raiseAt up
  rw [← BitVec.ofNat_add]
  have := h (f + b) (by omega) (by omega)
  unfold thr at this
  by_cases hc : f + b ≤ N
  · rw [if_pos hc, if_pos (this.2 hc)]
  · rw [if_neg hc, if_neg (fun h' => hc (this.1 h'))]

/-- The eight steps find the number of the largest threshold reached, and the floor at ten gives the field. -/
theorem raw_field (a : EReal) :
    ∃ N : ℕ, N ≤ 255 ∧ raiseAt a 1#32 (raiseAt a 2#32 (raiseAt a 4#32 (raiseAt a 8#32 (raiseAt a 16#32 (raiseAt a 32#32 (raiseAt a 64#32
      (raiseAt a 128#32 0#32))))))) = BitVec.ofNat 32 N ∧ (if N < 10 then 135 else N) = field a := by
  obtain ⟨N, hN, h⟩ := exists_reach a
  refine ⟨N, hN, ?_, ?_⟩
  · have l0 : up N 128 0 + 128 ≤ 256 := up_le N 128 0 (by omega)
    have l1 := up_le N 64 _ l0
    have l2 := up_le N 32 _ l1
    have l3 := up_le N 16 _ l2
    have l4 := up_le N 8 _ l3
    have l5 := up_le N 4 _ l4
    have l6 := up_le N 2 _ l5
    rw [raiseAt_eq a N h 128 0 (by omega) (by omega), raiseAt_eq a N h 64 _ (by omega) l0, raiseAt_eq a N h 32 _ (by omega) l1,
      raiseAt_eq a N h 16 _ (by omega) l2, raiseAt_eq a N h 8 _ (by omega) l3, raiseAt_eq a N h 4 _ (by omega) l4,
      raiseAt_eq a N h 2 _ (by omega) l5, raiseAt_eq a N h 1 _ (by omega) l6]
    exact congrArg _ (bisect ⟨N, by omega⟩)
  · unfold field
    rw [count_eq a N hN h]
    split <;> split <;> omega

end Cert.Val
-- ==== Proof.Val.Spec.lean ====
module

public import proofs.«01_k».proof.Proof.Val.Field

/-!
What both programs compute, at an index: the scaled product, the requantized codes and the scale bytes; and the scalar facts
that bring either program's text to it.
-/

@[expose] public section

set_option maxRecDepth 16384

noncomputable section

namespace Cert.Val

open Idealize.ShloMosaic

variable (x0 : (⟨2, ![4096, 16384]⟩ : Shape).Idx → EReal) (x1 : (⟨2, ![5120, 16384]⟩ : Shape).Idx → EReal)
  (x2 : (⟨2, ![5120, 512]⟩ : Shape).Idx → BitVec 8) (x3 : (⟨2, ![4096, 5120]⟩ : Shape).Idx → EReal)
  (x4 : (⟨2, ![4096, 128]⟩ : Shape).Idx → EReal)

/-- The product: each weight code times its block's power of two, summed against the row's codes. -/
def prod (r : Fin 4096) (n : Fin 5120) : EReal :=
  ∑ k : Fin 16384, x0 (ix2 r k) * (x1 (ix2 n k) * pw (x2 (ix2 (n0 := 5120) (n1 := 512) n ⟨k.val / 32, by omega⟩)).toNat)

/-- Result `y`. -/
def specY (r : Fin 4096) (n : Fin 5120) : EReal := prod x0 x1 x2 r n * x4 (ix2 (n0 := 4096) (n1 := 128) r 0) + x3 (ix2 r n)

/-- The largest of 32 magnitudes. -/
def max32 (f : Fin 32 → EReal) : EReal := Finset.fold max ⊥ (fun x => max (f x) (-(f x))) Finset.univ

/-- The block maximum of `|y|`. -/
def specA (r : Fin 4096) (b : Fin 160) : EReal :=
  max32 fun x => specY x0 x1 x2 x3 x4 r ⟨32 * b.val + x.val, by omega⟩

/-- The code of a value whose block has exponent field `f`. -/
def code (y : EReal) (f : ℕ) : EReal := min ((448 : ℝ) : EReal) (max ((-448 : ℝ) : EReal) (y * pw (262 - f)))

/-- Result `y_codes`. -/
def specC (r : Fin 4096) (n : Fin 5120) : EReal :=
  code (specY x0 x1 x2 x3 x4 r n) (field (specA x0 x1 x2 x3 x4 r ⟨n.val / 32, by omega⟩))

/-- Result `y_scales`. -/
def specS (r : Fin 4096) (b : Fin 160) : BitVec 8 := BitVec.ofNat 8 (field (specA x0 x1 x2 x3 x4 r b) - 8)

/-! ## Scalars -/

theorem f32_448 : Ideal.ofBits .f32 1138753536#32 = ((448 : ℝ) : EReal) := by
  simp [Ideal.ofBits, Ideal.ieee, -EReal.coe_mul]; norm_num
theorem f32_n448 : Ideal.ofBits .f32 3286237184#32 = ((-448 : ℝ) : EReal) := by
  simp [Ideal.ofBits, Ideal.ieee, -EReal.coe_mul]; norm_num
theorem bf16_448 : Ideal.ofBits .bf16 0x43E0#16 = ((448 : ℝ) : EReal) := by
  simp [Ideal.ofBits, Ideal.ieee, -EReal.coe_mul]; norm_num
theorem bf16_n448 : Ideal.ofBits .bf16 0xC3E0#16 = ((-448 : ℝ) : EReal) := by
  simp [Ideal.ofBits, Ideal.ieee, -EReal.coe_mul]; norm_num
theorem f32_127 : Ideal.ofBits .f32 1123942400#32 = ((127 : ℝ) : EReal) := by
  simp [Ideal.ofBits, Ideal.ieee, -EReal.coe_mul]; norm_num
theorem f32_bot : Ideal.ofBits .f32 4286578688#32 = ⊥ := by simp [Ideal.ofBits, Ideal.ieee]

theorem exp2_int (z : ℤ) : Ideal.exp2 (((z : ℝ)) : EReal) = (((2 : ℝ) ^ z : ℝ) : EReal) := by
  rw [Ideal.exp2_coe]
  congr 1
  exact Real.rpow_intCast 2 z

/-- A scale byte's power of two. -/
theorem exp2_byte (b : BitVec 8) :
    FloatOps.exp2 (F := Ideal) (φ := .f32) (FloatOps.sitofp .f32 (BitVec.setWidth 32 b) - Ideal.ofBits .f32 1123942400#32) = pw b.toNat := by
  have e : (BitVec.setWidth 32 b).toInt = (b.toNat : ℤ) := by
    rw [BitVec.toInt_eq_toNat_of_lt] <;> simp <;> omega
  show Ideal.exp2 ((((BitVec.setWidth 32 b).toInt : ℝ) : EReal) - Ideal.ofBits .f32 1123942400#32) = _
  rw [f32_127, e, ← EReal.coe_sub]
  have : (((b.toNat : ℤ) : ℝ) - 127) = (((b.toNat : ℤ) - 127 : ℤ) : ℝ) := by push_cast; ring
  rw [this, exp2_int]
  rfl

/-- The bound of number `x`. -/
theorem bound_eq (x : Fin 246) :
    Ideal.ofBits .f32 1138753536#32 * FloatOps.exp2 (F := Ideal) (φ := .f32) (FloatOps.sitofp .f32 (IntOp.subi (BitVec.ofNat 32 x.val) 126#32))
      = (((448 : ℝ) * 2 ^ ((x.val : ℤ) - 126) : ℝ) : EReal) := by
  have e : ∀ x : Fin 246, (IntOp.subi (BitVec.ofNat 32 x.val) 126#32).toInt = (x.val : ℤ) - 126 := by decide +kernel
  show _ * Ideal.exp2 ((((IntOp.subi (BitVec.ofNat 32 x.val) 126#32).toInt : ℝ) : EReal)) = _
  rw [f32_448, e, exp2_int, ← EReal.coe_mul]

/-- A count of bits as a sum of words. -/
theorem fold_count {ι : Type} [DecidableEq ι] (p : ι → Prop) [DecidablePred p] (s : Finset ι) :
    Finset.fold IntOp.addi 0#32 (fun x => BitVec.setWidth 32 (BitVec.ofBool (decide (p x)))) s = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun hm => ha (Finset.mem_filter.1 hm).1), Nat.add_comm, BitVec.ofNat_add, decide_eq_true h]
      rfl
    · rw [if_neg h, decide_eq_false h]
      exact BitVec.zero_add _

/-- The exponent the reference takes from the count. -/
abbrev expo (w : BitVec 32) : BitVec 32 :=
  Scalar.select (IntOp.cmpi CmpIPredicate.eq (IntOp.subi w 126#32) 4294967170#32) (0#32) (IntOp.subi w 126#32)

theorem expo_toInt : ∀ n : Fin 247, (expo (BitVec.ofNat 32 n.val)).toInt = (if n.val = 0 then 135 else (n.val : ℤ) + 9) - 135 := by decide +kernel
theorem expo_byte : ∀ n : Fin 247, BitVec.setWidth 8 (IntOp.addi (expo (BitVec.ofNat 32 n.val)) 127#32)
    = BitVec.ofNat 8 ((if n.val = 0 then 135 else n.val + 9) - 8) := by decide +kernel

theorem byte_eq (a : EReal) : BitVec.setWidth 8 (IntOp.addi (expo (BitVec.ofNat 32 (count a))) 127#32) = BitVec.ofNat 8 (field a - 8) :=
  expo_byte ⟨count a, by have := count_le a; omega⟩

theorem inv_eq (a : EReal) :
    FloatOps.exp2 (F := Ideal) (φ := .f32) (0 - FloatOps.sitofp .f32 (expo (BitVec.ofNat 32 (count a)))) = pw (262 - field a) := by
  have e := expo_toInt ⟨count a, by have := count_le a; omega⟩
  have hf : ((field a : ℕ) : ℤ) = if count a = 0 then 135 else (count a : ℤ) + 9 := by
    unfold field; split <;> simp
  rw [← hf] at e
  have e' : (expo (BitVec.ofNat 32 (count a))).toInt = (field a : ℤ) - 135 := e
  show Ideal.exp2 (0 - (((expo (BitVec.ofNat 32 (count a))).toInt : ℝ) : EReal)) = _
  rw [e', zero_sub, ← EReal.coe_neg]
  have : (-(((field a : ℤ) - 135 : ℤ) : ℝ)) = ((135 - (field a : ℤ) : ℤ) : ℝ) := by push_cast; ring
  rw [this, exp2_int]
  unfold pw
  have hle := field_le a
  have : ((262 - field a : ℕ) : ℤ) - 127 = 135 - (field a : ℤ) := by omega
  rw [this]

end Cert.Val
-- ==== Proof.Val.TileVals.lean ====
module

public import proofs.«01_k».proof.Proof.Mm.YsBytes
public import proofs.«01_k».proof.Proof.Val.Spec
public import Idealize.ShloMosaic.Lib.Pointwise
public import Idealize.ShloMosaic.Lib.Bf16Pair

/-!
One 128-column tile of the kernel at an index: the block maximum, the exponent field, the codes and the scale words.
-/

@[expose] public section

set_option maxRecDepth 16384

noncomputable section

namespace Cert.Val.Kern

open Idealize.ShloMosaic Cert.KernelIdeal Cert.KernelIdeal.Gen Cert.KernelIdeal.Mm

theorem yTile_apply (a xs : Vec Ideal S512x128 .f32) (x : Vec Ideal S512x128 .bf16) (r : Fin 512) (l : Fin 128) :
    yTile a xs x (ix2 r l) = a (ix2 r l) * xs (ix2 r l) + x (ix2 r l) := by
  pointwise [yTile, k0_pay21]

/-! ## The block maximum -/

theorem pair_eq (v : FVec Ideal S512x128 .bf16) : pair v = v := interleaveRows_rowsOfParity _ v

/-- A tile rotated along the lanes. -/
def rot (s : BitVec 32) (v : FVec Ideal S512x128 .bf16) : FVec Ideal S512x128 .bf16 := fun p =>
  v (ix2 (n0 := 512) (n1 := 128) (p 0) ⟨((p 1).val + 128 - s.toNat % 128) % 128, Nat.mod_lt _ (by decide)⟩)

theorem rotate_rows (s : BitVec 32) (v : FVec Ideal S512x128 .bf16) (k : Fin 2) :
    dynamicRotate 1 s none (rowsOfParity k S256x128 v bitcasts_S512x128_w16_S256x128_w32) rotates_S256x128_d1
      = rowsOfParity k S256x128 (rot s v) bitcasts_S512x128_w16_S256x128_w32 := by
  funext p
  refine congrArg v (funext fun a => ?_)
  match a with
  | ⟨0, _⟩ => rfl
  | ⟨1, _⟩ => rfl

theorem roll_eq (s : BitVec 32) (v : FVec Ideal S512x128 .bf16) : roll s v = rot s v := by
  unfold roll
  rw [rotate_rows, rotate_rows]
  exact interleaveRows_rowsOfParity _ _

/-- The largest of the `n` magnitudes from lane `l` on, cyclically. -/
def win (y : FVec Ideal S512x128 .bf16) (n : ℕ) (r : Fin 512) (l : ℕ) : EReal :=
  (Finset.range n).sup fun j => absf y (ix2 (n0 := 512) (n1 := 128) r ⟨(l + j) % 128, Nat.mod_lt _ (by decide)⟩)

theorem sup_add (f : ℕ → EReal) (n k : ℕ) :
    (Finset.range (n + k)).sup f = max ((Finset.range n).sup f) ((Finset.range k).sup fun i => f (n + i)) := by
  induction k with
  | zero => simp
  | succ k ih => rw [← Nat.add_assoc, Finset.range_add_one, Finset.sup_insert, ih, Finset.range_add_one, Finset.sup_insert, max_left_comm]

theorem win_add (y : FVec Ideal S512x128 .bf16) (n k : ℕ) (r : Fin 512) (l : ℕ) :
    win y (n + k) r l = max (win y n r l) (win y k r ((l + n) % 128)) := by
  unfold win
  rw [sup_add]
  congr 2
  funext j
  congr 2
  apply Fin.ext
  show (l + (n + j)) % 128 = ((l + n) % 128 + j) % 128
  omega

/-- One doubling of the window. -/
theorem rollMax_win (y v : FVec Ideal S512x128 .bf16) (n : ℕ) (s : BitVec 32) (hs : s.toNat + n = 128) (hn : 0 < n)
    (h : ∀ (r : Fin 512) (l : Fin 128), v (ix2 r l) = win y n r l.val) (r : Fin 512) (l : Fin 128) :
    rollMax s v (ix2 r l) = win y (n + n) r l.val := by
  unfold rollMax
  rw [pair_eq, roll_eq, win_add]
  show max (v (ix2 r l)) (v _) = _
  rw [h, show ∀ p : Fin 128, v (ix2 ((ix2 r l : S512x128.Idx) 0) p) = win y n r p.val from fun p => h r p]
  congr 2
  show (l.val + 128 - s.toNat % 128) % 128 = (l.val + n) % 128
  omega

theorem gath_apply (src : FVec Ideal S512x128 .f32) (ix : IVec S512x128 32) (r : Fin 512) (l n : Fin 128)
    (h : ix (ix2 r l) = BitVec.ofNat 32 n.val) : gath src ix (ix2 r l) = src (ix2 r n) := by
  have e : ∀ n : Fin 128, (Scalar.select (IntOp.cmpi .slt (BitVec.ofNat 32 n.val) 0#32) (IntOp.addi (BitVec.ofNat 32 n.val) 128#32) (BitVec.ofNat 32 n.val)).toNat % 128
    = n.val := by decide +kernel
  pointwise [gath]
  simp only [h, e]

theorem lane32_apply (r : Fin 512) (l : Fin 128) : lane32 (ix2 r l) = BitVec.ofNat 32 (32 * (l.val / 32)) := by
  have e : ∀ l : Fin 128, IntOp.andi (BitVec.ofNat 32 l.val) 4294967264#32 = BitVec.ofNat 32 (32 * (l.val / 32)) := by decide +kernel
  pointwise [lane32]
  exact e l

/-- The largest magnitude of a lane's group of 32. -/
def gmax (y : FVec Ideal S512x128 .bf16) (r : Fin 512) (g : ℕ) (hg : g < 4) : EReal :=
  max32 fun x => y (ix2 (n0 := 512) (n1 := 128) r ⟨32 * g + x.val, by omega⟩)

theorem win_gmax (y : FVec Ideal S512x128 .bf16) (r : Fin 512) (g : ℕ) (hg : g < 4) : win y 32 r (32 * g) = gmax y r g hg := by
  unfold win gmax max32
  show _ = Finset.univ.sup _
  apply le_antisymm
  · refine Finset.sup_le fun j hj => ?_
    have hj := Finset.mem_range.1 hj
    refine le_trans (le_of_eq ?_) (Finset.le_sup (Finset.mem_univ (⟨j, hj⟩ : Fin 32)))
    show absf y _ = absf y _
    congr 2
    exact Fin.ext (by show (32 * g + j) % 128 = 32 * g + j; omega)
  · refine Finset.sup_le fun j _ => ?_
    refine le_trans (le_of_eq ?_) (Finset.le_sup (Finset.mem_range.2 j.isLt))
    show absf y _ = absf y _
    congr 2
    exact Fin.ext (by show 32 * g + j.val = (32 * g + j.val) % 128; omega)

theorem groupMax_apply (y : FVec Ideal S512x128 .bf16) (r : Fin 512) (l : Fin 128) :
    groupMax y (ix2 r l) = gmax y r (l.val / 32) (by omega) := by
  have h1 : ∀ (r : Fin 512) (l : Fin 128), absf y (ix2 r l) = win y 1 r l.val := fun r l => by
    unfold win
    rw [Finset.range_one, Finset.sup_singleton]
    congr 2
    exact Fin.ext (by show l.val = (l.val + 0) % 128; omega)
  have h2 := rollMax_win y _ 1 127#32 rfl (by decide) h1
  have h4 := rollMax_win y _ 2 126#32 rfl (by decide) h2
  have h8 := rollMax_win y _ 4 124#32 rfl (by decide) h4
  have h16 := rollMax_win y _ 8 120#32 rfl (by decide) h8
  have h32 := rollMax_win y _ 16 112#32 rfl (by decide) h16
  have ext : ∀ (g : FVec Ideal S512x128 .f32) (p : S512x128.Idx), extf .f32 (truncf .bf16 g bitsLt_bf16_f32) bitsLt_bf16_f32 p = g p := fun g p => rfl
  have ext' : ∀ (g : FVec Ideal S512x128 .bf16) (p : S512x128.Idx), extf .f32 g bitsLt_bf16_f32 p = g p := fun g p => rfl
  unfold groupMax
  rw [pair_eq, pair_eq, ext, gath_apply _ _ r l ⟨32 * (l.val / 32), by omega⟩ (lane32_apply r l), ext', h32]
  exact win_gmax y r _ _

/-! ## The exponent field -/

theorem raise_apply (b : BitVec 32) (m : FVec Ideal S512x128 .f32) (f : IVec S512x128 32) (r : Fin 512) (l : Fin 128) :
    raise b m f (ix2 r l) = raiseAt (m (ix2 r l)) b (f (ix2 r l)) := by
  unfold raiseAt
  pointwise [raise]
  rfl

theorem rawField_apply (m : FVec Ideal S512x128 .f32) (r : Fin 512) (l : Fin 128) :
    ∃ N : ℕ, N ≤ 255 ∧ rawField m (ix2 r l) = BitVec.ofNat 32 N ∧ (if N < 10 then 135 else N) = field (m (ix2 r l)) := by
  unfold rawField
  simp only [raise_apply]
  exact raw_field (m (ix2 r l))

/-- The halfword that holds field `f`. -/
abbrev half (f : ℕ) : BitVec 16 := BitVec.ofNat 16 f <<< 7

/-- The exponent field of a lane. -/
def fld (y : FVec Ideal S512x128 .bf16) (r : Fin 512) (l : Fin 128) : ℕ := field (gmax y r (l.val / 32) (by omega))

theorem half_floor : ∀ N : Fin 256, BitVec.setWidth 16 (IntOp.shli .vector
    (Scalar.select (IntOp.cmpi .slt (BitVec.ofNat 32 N.val) 10#32) 135#32 (BitVec.ofNat 32 N.val)) 7#32)
      = half (if N.val < 10 then 135 else N.val) := by decide +kernel

theorem words_apply (y : FVec Ideal S512x128 .bf16) (r : Fin 256) (l : Fin 128) :
    words y (ix2 r l) = half (fld y ⟨2 * r.val + 1, by omega⟩ l) ++ half (fld y ⟨2 * r.val, by omega⟩ l) := by
  have h : ∀ r : Fin 512, BitVec.setWidth 16 (IntOp.shli .vector
      (Scalar.select (IntOp.cmpi .slt (rawField (groupMax y) (ix2 r l)) 10#32) 135#32 (rawField (groupMax y) (ix2 r l))) 7#32) = half (fld y r l) := by
    intro r
    obtain ⟨N, hN, e, hf⟩ := rawField_apply (groupMax y) r l
    rw [e]
    refine (half_floor ⟨N, by omega⟩).trans ?_
    show half (if N < 10 then 135 else N) = _
    rw [hf, groupMax_apply]
    rfl
  unfold words k0_pay34
  rw [word_apply]
  generalize rawField (groupMax y) = f at h
  rw [← h, ← h]
  rfl

theorem half_toNat (f : ℕ) (h : f ≤ 255) : (half f).toNat = 128 * f := by
  unfold half
  rw [BitVec.toNat_shiftLeft, BitVec.toNat_ofNat, Nat.shiftLeft_eq]
  omega

/-- Half `q` of a word of two halfwords. -/
theorem half_of_word (f1 f0 q : ℕ) (hq : q < 2) (h1 : f1 ≤ 255) (h0 : f0 ≤ 255) :
    (half f1 ++ half f0).extractLsb' (16 * q) 16 = half (if q = 0 then f0 else f1) := by
  apply BitVec.eq_of_toNat_eq
  rw [BitVec.extractLsb'_toNat, BitVec.toNat_append, Nat.shiftRight_eq_div_pow, ← Nat.shiftLeft_add_eq_or_of_lt (half f0).isLt, Nat.shiftLeft_eq,
    half_toNat f1 h1, half_toNat f0 h0]
  have : q = 0 ∨ q = 1 := by omega
  rcases this with rfl | rfl
  · rw [if_pos rfl, half_toNat f0 h0]; omega
  · rw [if_neg (by decide), half_toNat f1 h1]; omega

/-- Half `q` of the inverse word. -/
theorem inv_half (f1 f0 q : ℕ) (hq : q < 2) (h1 : f1 ≤ 255) (h0 : f0 ≤ 255) :
    (IntOp.subi 2197848832#32 (half f1 ++ half f0)).extractLsb' (16 * q) 16 = half (262 - if q = 0 then f0 else f1) := by
  have e : (half f1 ++ half f0).toNat = 65536 * (128 * f1) + 128 * f0 := by
    rw [BitVec.toNat_append, ← Nat.shiftLeft_add_eq_or_of_lt (half f0).isLt, Nat.shiftLeft_eq, half_toNat f1 h1, half_toNat f0 h0]; omega
  apply BitVec.eq_of_toNat_eq
  unfold IntOp.subi
  rw [BitVec.extractLsb'_toNat, BitVec.toNat_sub, Nat.shiftRight_eq_div_pow, e]
  have : q = 0 ∨ q = 1 := by omega
  rcases this with rfl | rfl
  · rw [if_pos rfl]
    unfold half
    rw [BitVec.toNat_shiftLeft, BitVec.toNat_ofNat, Nat.shiftLeft_eq]; simp only [BitVec.toNat_ofNat]; omega
  · rw [if_neg (by decide)]
    unfold half
    rw [BitVec.toNat_shiftLeft, BitVec.toNat_ofNat, Nat.shiftLeft_eq]; simp only [BitVec.toNat_ofNat]; omega

theorem fld_le (y : FVec Ideal S512x128 .bf16) (r : Fin 512) (l : Fin 128) : 10 ≤ fld y r l ∧ fld y r l ≤ 255 := field_le _

/-- A property of a row from the two rows of its word. -/
theorem row_split (r : Fin 512) (f : Fin 512 → ℕ) :
    (if r.val % 2 = 0 then f ⟨2 * (r.val / 2), by omega⟩ else f ⟨2 * (r.val / 2) + 1, by omega⟩) = f r := by
  by_cases h : r.val % 2 = 0
  · rw [if_pos h]; exact congrArg f (Fin.ext (by show 2 * (r.val / 2) = r.val; omega))
  · rw [if_neg h]; exact congrArg f (Fin.ext (by show 2 * (r.val / 2) + 1 = r.val; omega))

theorem words_half (y : FVec Ideal S512x128 .bf16) (r : Fin 512) (l : Fin 128) :
    (words y (ix2 (n0 := 256) ⟨r.val / 2, by omega⟩ l)).extractLsb' (16 * (r.val % 2)) 16 = half (fld y r l) := by
  rw [words_apply, half_of_word _ _ _ (Nat.mod_lt _ (by decide)) (fld_le _ _ _).2 (fld_le _ _ _).2]
  exact congrArg half (row_split r fun r => fld y r l)

theorem byteOf_half : ∀ f : Fin 256, 8 ≤ f.val → byteOf (half f.val) = BitVec.ofNat 8 (f.val - 8) := by decide +kernel

/-! ## The codes -/

theorem codes_apply (y : FVec Ideal S512x128 .bf16) (r : Fin 512) (l : Fin 128) :
    codes y (ix2 r l) = code (y (ix2 r l)) (fld y r l) := by
  have e : k0_pay34 (rawField (groupMax y)) k0_pay33 = words y := rfl
  unfold codes k0_pay35
  rw [e]
  have hw := words_apply y ⟨r.val / 2, by omega⟩ l
  generalize words y = w at hw
  pointwise [half_apply]
  rw [hw, inv_half _ _ _ (Nat.mod_lt _ (by decide)) (fld_le _ _ _).2 (fld_le _ _ _).2, row_split r fun r => fld y r l]
  have hf := fld_le y r l
  unfold code half
  rw [bf16_pw _ (by omega) (by omega)]
  congr 1
  · exact bf16_448
  · congr 1; exact bf16_n448

/-! ## The combined scale words -/

theorem comb_lane : ∀ l : Fin 128, (Scalar.select
      (IntOp.cmpi .slt (IntOp.addi (IntOp.shli .vector (IntOp.andi (BitVec.ofNat 32 l.val) 3#32) 5#32)
        (IntOp.andi (IntOp.shrsi .vector (BitVec.ofNat 32 l.val) 2#32) 3#32)) 0#32)
      (IntOp.addi (IntOp.addi (IntOp.shli .vector (IntOp.andi (BitVec.ofNat 32 l.val) 3#32) 5#32)
        (IntOp.andi (IntOp.shrsi .vector (BitVec.ofNat 32 l.val) 2#32) 3#32)) 128#32)
      (IntOp.addi (IntOp.shli .vector (IntOp.andi (BitVec.ofNat 32 l.val) 3#32) 5#32)
        (IntOp.andi (IntOp.shrsi .vector (BitVec.ofNat 32 l.val) 2#32) 3#32))).toNat % 128
    = 32 * (l.val % 4) + l.val / 4 % 4 := by decide +kernel

theorem comb_tile : ∀ l : Fin 128, IntOp.andi (BitVec.ofNat 32 (32 * (l.val % 4) + l.val / 4 % 4)) 3#32 = BitVec.ofNat 32 (l.val / 4 % 4) := by
  decide +kernel

theorem comb_pick {α : Type} (w : Fin 4 → α) : ∀ j : Fin 4,
    Scalar.select (IntOp.cmpi .eq (BitVec.ofNat 32 j.val) 3#32) (w 3) (Scalar.select (IntOp.cmpi .eq (BitVec.ofNat 32 j.val) 2#32) (w 2)
      (Scalar.select (IntOp.cmpi .eq (BitVec.ofNat 32 j.val) 1#32) (w 1) (w 0))) = w j
  | 0 => rfl
  | 1 => rfl
  | 2 => rfl
  | 3 => rfl

theorem combined_apply (w : Fin 4 → IVec S256x128 32) (p : Fin 256) (l : Fin 128) :
    combined (w 0) (w 1) (w 2) (w 3) (ix2 p l)
      = w ⟨l.val / 4 % 4, by omega⟩ (ix2 (n0 := 256) (n1 := 128) p ⟨32 * (l.val % 4) + l.val / 4 % 4, by omega⟩) := by
  pointwise [combined, k0_pay75, k0_pay61, k0_pay46, k0_pay20]
  simp only [comb_lane, comb_tile]
  exact comb_pick (fun j => w j (ix2 (n0 := 256) (n1 := 128) p ⟨32 * (l.val % 4) + l.val / 4 % 4, by omega⟩)) ⟨l.val / 4 % 4, by omega⟩

end Cert.Val.Kern
-- ==== Proof.Val.AccVals.lean ====
module

public import proofs.«01_k».proof.Proof.Mm.Values
public import proofs.«01_k».proof.Proof.Val.TileVals
public import Idealize.ShloMosaic.Lib.Pointwise
public import Idealize.ShloMosaic.Lib.Pipeline.Value

/-!
The kernel's accumulator at an index: the sum over all columns of codes times scaled weights.
-/

@[expose] public section

set_option maxRecDepth 16384

noncomputable section

namespace Cert.Val.Kern

open Idealize.ShloMosaic Cert.KernelIdeal Cert.KernelIdeal.Gen Cert.KernelIdeal.Mm

theorem sbOf_apply (x : Vec Ideal S512x512 .i8) (a b : Fin 512) (h1 : 1 ≤ (x (ix2 a b)).toNat) (h2 : (x (ix2 a b)).toNat ≤ 254) :
    sbOf x (ix2 a b) = pw (x (ix2 a b)).toNat := by
  rw [← f32_pw _ h1 h2]
  have e : BitVec.ofNat 32 (x (ix2 a b)).toNat = BitVec.setWidth 32 (x (ix2 a b)) := by
    apply BitVec.eq_of_toNat_eq; simp
  rw [e]
  pointwise [sbOf, k0_pay17]
  rfl

theorem gIdx_apply (g : BitVec 32) (r : Fin 512) (l : Fin 128) : gIdx g (ix2 r l) = BitVec.ofNat 32 (l.val / 32) + g := by
  have e : ∀ l : Fin 128, IntOp.shrsi .vector (BitVec.ofNat 32 l.val) 5#32 = BitVec.ofNat 32 (l.val / 32) := by decide +kernel
  pointwise [gIdx]
  rw [e]
  rfl

theorem gBase_eq : ∀ k : Fin k0_t1_loop.trips, gBase k = BitVec.ofNat 32 (32 * (k.val % 4)) := by decide +kernel

theorem off1_eq : ∀ k : Fin k0_t1_loop.trips, k0_off1 k = ![0, 128 * (k.val / 4)] := by decide +kernel

theorem trip_dot (a : FVec Ideal S512x512 .f32) (x : FVec Ideal S512x1024 .bf16) (w : FVec Ideal S512x1024 .bf16) (r n : Fin 512) :
    addf a (matmul dot_S512x1024_S512x1024_S512x512_1_1_0_0_n_n none x w (constant S512x512 .f32 0x00000000#32)) (ix2 r n)
      = a (ix2 r n) + ∑ q : Fin 1024, x (ix2 r q) * w (ix2 n q) := by
  pointwise

theorem trips_eq : k0_t1_loop.trips = 16 := by decide +kernel

/-- A window of a matrix at an index. -/
theorem window_apply {α : Type} {n0 n1 m0 m1 : ℕ} (x : (⟨2, ![n0, n1]⟩ : Shape).Idx → α) (off : Fin 2 → ℕ) (o0 o1 : ℕ) (ho : off = ![o0, o1])
    (inb : ∀ a, off a + (![m0, m1] : Fin 2 → ℕ) a ≤ (![n0, n1] : Fin 2 → ℕ) a) (r : Fin m0) (l : Fin m1) (h0 : o0 + r.val < n0) (h1 : o1 + l.val < n1) :
    VecWindow.window x off ![m0, m1] inb (ix2 r l) = x (ix2 ⟨o0 + r.val, h0⟩ ⟨o1 + l.val, h1⟩) := by
  subst ho
  unfold VecWindow.window
  congr 1
  funext a
  match a with
  | ⟨0, _⟩ => exact Fin.ext (by show o0 + 1 * r.val = o0 + r.val; omega)
  | ⟨1, _⟩ => exact Fin.ext (by show o1 + 1 * l.val = o1 + l.val; omega)

theorem gsum : ∀ (m : Fin 4) (i : Fin 8) (c : Fin 4),
    BitVec.ofNat 32 c.val + Scalar.addi (BitVec.ofNat 32 (32 * m.val)) (BitVec.ofNat 32 (4 * i.val)) = BitVec.ofNat 32 (32 * m.val + 4 * i.val + c.val) := by
  decide +kernel

variable (x2 x3 : Vec Ideal S512x16384 .fp8e4m3) (s : FVec Ideal S512x512 .bf16)

/-- Piece `i` of the scaled weight of trip `k`. -/
def piece (k : Fin k0_t1_loop.trips) (i : Fin 8) : FVec Ideal S512x128 .bf16 :=
  wPart (extf .f32 (VecWindow.window s (k0_off1 k) S512x128.size (k0_off1_inb k)) bitsLt_bf16_f32)
    (Scalar.addi (gBase k) (BitVec.ofNat 32 (4 * i.val))) (wCols x3 k (BitVec.ofNat 32 (128 * i.val)) (k0_off2_inb k i))

/-- A weight times its scale. -/
def wAt (n : Fin 512) (j : Fin 16384) : EReal := x3 (ix2 n j) * s (ix2 (n0 := 512) (n1 := 512) n ⟨j.val / 32, by omega⟩)

theorem piece_apply (k : Fin k0_t1_loop.trips) (i : Fin 8) (n : Fin 512) (l : Fin 128) (h : 1024 * k.val + 128 * i.val + l.val < 16384) :
    piece x3 s k i (ix2 n l) = wAt x3 s n ⟨1024 * k.val + 128 * i.val + l.val, h⟩ := by
  have hk : k.val < 16 := lt_of_lt_of_eq k.isLt trips_eq
  have hg : gIdx (Scalar.addi (gBase k) (BitVec.ofNat 32 (4 * i.val))) (ix2 n l) = BitVec.ofNat 32 (32 * (k.val % 4) + 4 * i.val + l.val / 32) := by
    rw [gIdx_apply, gBase_eq]
    exact gsum ⟨k.val % 4, by omega⟩ i ⟨l.val / 32, by omega⟩
  have hs : gath (extf .f32 (VecWindow.window s (k0_off1 k) S512x128.size (k0_off1_inb k)) bitsLt_bf16_f32)
      (gIdx (Scalar.addi (gBase k) (BitVec.ofNat 32 (4 * i.val)))) (ix2 n l)
        = s (ix2 (n0 := 512) (n1 := 512) n ⟨(1024 * k.val + 128 * i.val + l.val) / 32, by omega⟩) := by
    rw [gath_apply _ _ n l ⟨32 * (k.val % 4) + 4 * i.val + l.val / 32, by omega⟩ hg]
    refine (window_apply (n0 := 512) (n1 := 512) s _ _ _ (off1_eq k) _ n _ (by omega) (by show 128 * (k.val / 4) + (32 * (k.val % 4) + 4 * i.val + l.val / 32) < 512; omega)).trans ?_
    congr 2
    · exact Fin.ext (by show 0 + n.val = n.val; omega)
    · exact Fin.ext (by show 128 * (k.val / 4) + (32 * (k.val % 4) + 4 * i.val + l.val / 32) = (1024 * k.val + 128 * i.val + l.val) / 32; omega)
  have hw : wCols x3 k (BitVec.ofNat 32 (128 * i.val)) (k0_off2_inb k i) (ix2 n l) = x3 (ix2 n ⟨1024 * k.val + 128 * i.val + l.val, h⟩) := by
    refine (window_apply (n0 := 512) (n1 := 16384) x3 _ _ _ (k0_off2_eq k i) _ n l (by omega) h).trans ?_
    congr 2
    exact Fin.ext (by show 0 + n.val = n.val; omega)
  unfold piece wAt wPart
  rw [← hs, ← hw]
  rfl

theorem trip_apply (k : Fin k0_t1_loop.trips) (a : FVec Ideal S512x512 .f32) (r n : Fin 512) (hk : k.val < 16) :
    trip x2 x3 s k a (ix2 r n) = a (ix2 r n) + ∑ q : Fin 1024, x2 (ix2 (n0 := 512) (n1 := 16384) r ⟨1024 * k.val + q.val, by omega⟩)
      * wAt x3 s n ⟨1024 * k.val + q.val, by omega⟩ := by
  unfold trip
  refine (trip_dot _ _ _ r n).trans ?_
  refine congrArg (a (ix2 r n) + ·) (Finset.sum_congr rfl fun q _ => ?_)
  refine congrArg₂ (· * ·) ?_ ?_
  · refine (window_apply (n0 := 512) (n1 := 16384) x2 _ _ _ (k0_off3_eq k) _ r q (by omega) (by omega)).trans ?_
    congr 2
    exact Fin.ext (by show 0 + r.val = r.val; omega)
  · refine (concatenate_ofFn_apply (t := S512x1024) (s₁ := S512x128) 1 (piece x3 s k)
      concatenates_S512x128_S512x128_S512x128_S512x128_S512x128_S512x128_S512x128_S512x128_S512x1024_d1 rfl 128 rfl (ix2 n q)
      ⟨q.val / 128, by omega⟩ rfl (ix2 (n0 := 512) (n1 := 128) n ⟨q.val % 128, by omega⟩) rfl ?_).trans ?_
    · intro b hb
      match b, hb with
      | ⟨0, _⟩, _ => rfl
      | ⟨1, _⟩, hb => exact absurd rfl hb
    · rw [piece_apply _ _ _ _ _ _ (by show 1024 * k.val + 128 * (q.val / 128) + q.val % 128 < 16384; omega)]
      congr 1
      exact Fin.ext (by show 1024 * k.val + 128 * (q.val / 128) + q.val % 128 = 1024 * k.val + q.val; omega)

/-- One product of the contraction. -/
def term (r n : Fin 512) (j : ℕ) : EReal := if h : j < 16384 then x2 (ix2 r ⟨j, h⟩) * wAt x3 s n ⟨j, h⟩ else 0

theorem acc_range (r n : Fin 512) : ∀ k : ℕ, k ≤ 16 → acc x2 x3 s k (ix2 r n) = ∑ j ∈ Finset.range (1024 * k), term x2 x3 s r n j
  | 0, _ => by
    show k0_pay18 (ix2 r n) = 0
    pointwise [k0_pay18]
  | k + 1, hk => by
    have hk' : k < k0_t1_loop.trips := lt_of_lt_of_eq (by omega) trips_eq.symm
    have e : acc x2 x3 s (k + 1) = trip x2 x3 s ⟨k, hk'⟩ (acc x2 x3 s k) := dif_pos hk'
    rw [e, trip_apply _ _ _ _ _ _ _ (by show k < 16; omega), acc_range r n k (by omega), Nat.mul_succ, Finset.sum_range_add]
    congr 1
    rw [Finset.sum_range]
    refine Finset.sum_congr rfl fun q _ => ?_
    unfold term
    rw [dif_pos]

theorem acc_apply (r n : Fin 512) : acc x2 x3 s k0_t1_loop.trips (ix2 r n) = ∑ j : Fin 16384, x2 (ix2 r j) * wAt x3 s n j := by
  rw [trips_eq, acc_range _ _ _ _ _ 16 le_rfl, Finset.sum_range]
  refine Finset.sum_congr rfl fun j _ => ?_
  unfold term
  rw [dif_pos]

end Cert.Val.Kern
-- ==== Proof.Val.Blocks.lean ====
module

public import proofs.«01_k».proof.Proof.Mm.Dat
public import proofs.«01_k».proof.Proof.Val.AccVals
public import Idealize.ShloMosaic.Lib.Pipeline.ValueKit

/-!
The kernel's result arrays after the run: each grid point's block is the block of the specified array.
-/

@[expose] public section

set_option maxRecDepth 16384

noncomputable section

namespace Cert.Val.Kern

open Idealize.ShloMosaic Idealize.ShloMosaic.TcCoe Cert.KernelIdeal Cert.KernelIdeal.Gen Cert.KernelIdeal.Mm
open Idealize.ShloMosaic.Pipeline (Dat)

variable (m : (ℓ : Loc nD τ sig) → Buf (Elt Ideal) ℓ) (c : Dev nD)

/-- The five argument arrays. -/
abbrev X0 : (⟨2, ![4096, 16384]⟩ : Shape).Idx → EReal := m ((c : Thread nD τ).loc main_arg0)
abbrev X1 : (⟨2, ![5120, 16384]⟩ : Shape).Idx → EReal := m ((c : Thread nD τ).loc main_arg1)
abbrev X2 : (⟨2, ![5120, 512]⟩ : Shape).Idx → BitVec 8 := m ((c : Thread nD τ).loc main_arg2)
abbrev X3 : (⟨2, ![4096, 5120]⟩ : Shape).Idx → EReal := m ((c : Thread nD τ).loc main_arg3)
abbrev X4 : (⟨2, ![4096, 128]⟩ : Shape).Idx → EReal := m ((c : Thread nD τ).loc main_arg4)

/-- The condition on the arguments: scale bytes of normal powers of two, and the row scale equal in all its lanes. -/
def Good : Prop :=
  (∀ p, 1 ≤ (X2 m c p).toNat ∧ (X2 m c p).toNat ≤ 254) ∧ ∀ (r : Fin 4096) (l : Fin 128), X4 m c (ix2 r l) = X4 m c (ix2 r 0)

theorem idx : ∀ t : Fin grid0.N, win0_0.index t 0 = t.val / 10 ∧ win0_0.index t 1 = 0 ∧ win0_1.index t 0 = t.val % 10 ∧ win0_1.index t 1 = 0
    ∧ win0_2.index t 0 = t.val % 10 ∧ win0_2.index t 1 = 0 ∧ win0_3.index t 0 = t.val / 10 ∧ win0_3.index t 1 = t.val % 10
    ∧ win0_4.index t 0 = t.val / 10 ∧ win0_4.index t 1 = 0 ∧ win0_5.index t 0 = t.val / 10 ∧ win0_5.index t 1 = t.val % 10
    ∧ win0_6.index t 0 = t.val / 10 ∧ win0_6.index t 1 = t.val % 10 ∧ win0_7.index t 0 = t.val / 10 ∧ win0_7.index t 1 = 0 := by decide +kernel

theorem N_eq : cfg0.N = 80 := by decide +kernel

/-- Row `r` of row block `t / 10`. -/
abbrev row (t : Fin cfg0.N) (r : Fin 512) : Fin 4096 := ⟨512 * (t.val / 10) + r.val, by have := lt_of_lt_of_eq t.isLt N_eq; omega⟩
/-- Column `n` of column block `t mod 10`. -/
abbrev col (t : Fin cfg0.N) (n : Fin 512) : Fin 5120 := ⟨512 * (t.val % 10) + n.val, by omega⟩

theorem blk0 (t : Fin cfg0.N) (r : Fin 512) (k : Fin 16384) : iblk m c 0 t (ix2 r k) = X0 m c (ix2 (row t r) k) := by
  blk_ext [iblk, V, idx t]
theorem blk1 (t : Fin cfg0.N) (n : Fin 512) (k : Fin 16384) : iblk m c 1 t (ix2 n k) = X1 m c (ix2 (col t n) k) := by
  blk_ext [iblk, V, idx t]
theorem blk2 (t : Fin cfg0.N) (n k : Fin 512) : iblk m c 2 t (ix2 n k) = X2 m c (ix2 (col t n) k) := by
  blk_ext [iblk, V, idx t]
theorem blk3 (t : Fin cfg0.N) (r n : Fin 512) : iblk m c 3 t (ix2 r n) = X3 m c (ix2 (row t r) (col t n)) := by
  blk_ext [iblk, V, idx t]
theorem blk4 (t : Fin cfg0.N) (r : Fin 512) (l : Fin 128) : iblk m c 4 t (ix2 r l) = X4 m c (ix2 (row t r) l) := by
  blk_ext [iblk, V, idx t]

/-- The specified `y` of the arguments. -/
abbrev sY := specY (X0 m c) (X1 m c) (X2 m c) (X3 m c) (X4 m c)
abbrev sA := specA (X0 m c) (X1 m c) (X2 m c) (X3 m c) (X4 m c)
abbrev sC := specC (X0 m c) (X1 m c) (X2 m c) (X3 m c) (X4 m c)
abbrev sS := specS (X0 m c) (X1 m c) (X2 m c) (X3 m c) (X4 m c)

/-- Tile `j` of `y` at point `t`. -/
abbrev tile (t : Fin cfg0.N) (j : Fin 4) : FVec Ideal S512x128 .bf16 :=
  yAt (iblk m c 0 t) (iblk m c 1 t) (iblk m c 2 t) (iblk m c 3 t) (iblk m c 4 t) j

theorem cols_apply {α : Type} (x : S512x512.Idx → α) (j : Fin 4) (r : Fin 512) (l : Fin 128) :
    cols x j (ix2 r l) = x (ix2 (n0 := 512) (n1 := 512) r ⟨128 * j.val + l.val, by omega⟩) := by
  refine (window_apply (n0 := 512) (n1 := 512) x _ 0 (128 * j.val) rfl _ r l (by omega) (by omega)).trans ?_
  congr 2
  exact Fin.ext (by show 0 + r.val = r.val; omega)

theorem tile_apply (h : Good m c) (t : Fin cfg0.N) (j : Fin 4) (r : Fin 512) (l : Fin 128) :
    tile m c t j (ix2 r l) = sY m c (row t r) (col t ⟨128 * j.val + l.val, by omega⟩) := by
  unfold tile yAt
  rw [yTile_apply, cols_apply, cols_apply, blk3, blk4, acc_apply, h.2]
  unfold sY specY prod wAt
  refine congrArg (fun p => p * X4 m c (ix2 (row t r) 0) + X3 m c (ix2 (row t r) (col t ⟨128 * j.val + l.val, by omega⟩))) (Finset.sum_congr rfl fun k _ => ?_)
  rw [sbOf_apply _ _ _ (by rw [blk2]; exact (h.1 _).1) (by rw [blk2]; exact (h.1 _).2), blk0, blk1, blk2]

theorem fld_apply (h : Good m c) (t : Fin cfg0.N) (j : Fin 4) (r : Fin 512) (l : Fin 128) :
    fld (tile m c t j) r l = field (sA m c (row t r) ⟨16 * (t.val % 10) + 4 * j.val + l.val / 32, by omega⟩) := by
  unfold fld gmax sA specA
  refine congrArg (fun f => field (max32 f)) (funext fun x => ?_)
  rw [tile_apply m c h]
  exact congrArg (sY m c (row t r)) (Fin.ext (by show 512 * (t.val % 10) + (128 * j.val + (32 * (l.val / 32) + x.val)) = 32 * (16 * (t.val % 10) + 4 * j.val + l.val / 32) + x.val; omega))

theorem yAtP_apply (h : Good m c) (t : Fin cfg0.N) (r n : Fin 512) : yAtP m c t (ix2 r n) = sY m c (row t r) (col t n) := by
  unfold yAtP yBlk glue
  refine (tile_apply m c h t ⟨n.val / 128, by omega⟩ r ⟨n.val % 128, by omega⟩).trans ?_
  exact congrArg (sY m c (row t r)) (Fin.ext (by show 512 * (t.val % 10) + (128 * (n.val / 128) + n.val % 128) = 512 * (t.val % 10) + n.val; omega))

theorem cAtP_apply (h : Good m c) (t : Fin cfg0.N) (r n : Fin 512) : cAtP m c t (ix2 r n) = sC m c (row t r) (col t n) := by
  unfold cAtP cBlk glue
  refine (codes_apply (tile m c t ⟨n.val / 128, by omega⟩) r ⟨n.val % 128, by omega⟩).trans ?_
  rw [tile_apply m c h, fld_apply m c h]
  exact congrArg₂ (fun n b => code (sY m c (row t r) n) (field (sA m c (row t r) b)))
    (Fin.ext (by show 512 * (t.val % 10) + (128 * (n.val / 128) + n.val % 128) = 512 * (t.val % 10) + n.val; omega))
    (Fin.ext (by show 16 * (t.val % 10) + 4 * (n.val / 128) + n.val % 128 / 32 = (512 * (t.val % 10) + n.val) / 32; omega))

theorem lane_block : ∀ b : Fin 160, 4 * (b.val % 128 / 4 % 4) + (32 * (b.val % 128 % 4) + b.val % 128 / 4 % 4) / 32 = b.val % 16 := by decide +kernel

/-- The scale byte that the kept words of row block `q` hold for a row and a block of 32 columns. -/
theorem ys_apply (h : Good m c) (t : Fin cfg0.N) (r : Fin 512) (b : Fin 160) :
    ysOf (F := Ideal) (kept m c (t.val / 10)) (ix2 r b) = sS m c (row t r) b := by
  have hN : t.val < 80 := lt_of_lt_of_eq t.isLt N_eq
  have hn : 10 * (t.val / 10) + b.val / 16 < cfg0.N := lt_of_lt_of_eq (b := 80) (by omega) N_eq.symm
  have hc : combN m c (10 * (t.val / 10) + b.val / 16) = combAt m c ⟨_, hn⟩ := dif_pos hn
  rw [ysOf_apply]
  unfold kept
  show byteOf ((combN m c (10 * (t.val / 10) + b.val / 16) (ix2 (n0 := 256) (n1 := 128) ⟨r.val / 2, _⟩ ⟨b.val % 128, _⟩)).extractLsb' (16 * (r.val % 2)) 16) = _
  rw [hc]
  unfold combAt comb
  rw [combined_apply (fun j => words (tile m c ⟨_, hn⟩ j)), words_half, fld_apply m c h]
  have hf := field_le (sA m c (row t r) b)
  have e : field (sA m c (row ⟨10 * (t.val / 10) + b.val / 16, hn⟩ r)
      ⟨16 * ((10 * (t.val / 10) + b.val / 16) % 10) + 4 * (b.val % 128 / 4 % 4) + (32 * (b.val % 128 % 4) + b.val % 128 / 4 % 4) / 32, by omega⟩)
        = field (sA m c (row t r) b) := by
    have hb := lane_block b
    exact congrArg₂ (fun r b => field (sA m c r b))
      (Fin.ext (by show 512 * ((10 * (t.val / 10) + b.val / 16) / 10) + r.val = 512 * (t.val / 10) + r.val; omega))
      (Fin.ext (by
        show 16 * ((10 * (t.val / 10) + b.val / 16) % 10) + 4 * (b.val % 128 / 4 % 4) + (32 * (b.val % 128 % 4) + b.val % 128 / 4 % 4) / 32 = b.val
        omega))
  refine (congrArg (fun f => byteOf (half f)) e).trans ?_
  show byteOf (half (field (sA m c (row t r) b))) = BitVec.ofNat 8 (field (sA m c (row t r) b) - 8)
  generalize field (sA m c (row t r) b) = f at hf
  exact byteOf_half ⟨f, by omega⟩ (by show 8 ≤ f; omega)

/-! ## The arrays -/

theorem arr5 (h : Good m c) : (dats m 0 c).arrAt 5 cfg0.N = fun p : S4096x5120.Idx => sY m c (p 0) (p 1) := by
  refine (dats m 0 c).arrAt_eq_of_covers 5 _ (by decide +kernel) fun t hf y => ?_
  blk_simp
  rw [after0_5]
  obtain ⟨r, n, rfl⟩ : ∃ r n, y = ix2 (n0 := 512) (n1 := 512) r n := ⟨y 0, y 1, eq_ix2 y⟩
  refine (yAtP_apply m c h t r n).trans ?_
  exact congrArg₂ (sY m c) (Fin.ext (by blk_simp [idx t]; show 512 * (t.val / 10) + r.val = t.val / 10 * 512 + r.val; omega))
    (Fin.ext (by blk_simp [idx t]; show 512 * (t.val % 10) + n.val = t.val % 10 * 512 + n.val; omega))

theorem arr6 (h : Good m c) : (dats m 0 c).arrAt 6 cfg0.N = fun p : S4096x5120.Idx => sC m c (p 0) (p 1) := by
  refine (dats m 0 c).arrAt_eq_of_covers 6 _ (by decide +kernel) fun t hf y => ?_
  blk_simp
  rw [after0_6]
  obtain ⟨r, n, rfl⟩ : ∃ r n, y = ix2 (n0 := 512) (n1 := 512) r n := ⟨y 0, y 1, eq_ix2 y⟩
  refine (cAtP_apply m c h t r n).trans ?_
  exact congrArg₂ (sC m c) (Fin.ext (by blk_simp [idx t]; show 512 * (t.val / 10) + r.val = t.val / 10 * 512 + r.val; omega))
    (Fin.ext (by blk_simp [idx t]; show 512 * (t.val % 10) + n.val = t.val % 10 * 512 + n.val; omega))

theorem arr7 (h : Good m c) : (dats m 0 c).arrAt 7 cfg0.N = fun p : S4096x160.Idx => sS m c (p 0) (p 1) := by
  refine (dats m 0 c).arrAt_eq_of_covers 7 _ (by decide +kernel) fun t hf y => ?_
  blk_simp
  rw [after0_7]
  obtain ⟨r, n, rfl⟩ : ∃ r n, y = ix2 (n0 := 512) (n1 := 160) r n := ⟨y 0, y 1, eq_ix2 y⟩
  refine (ys_apply m c h t r n).trans ?_
  exact congrArg₂ (sS m c) (Fin.ext (by blk_simp [idx t]; show 512 * (t.val / 10) + r.val = t.val / 10 * 512 + r.val; omega)) (Fin.ext (by blk_simp [idx t]))

end Cert.Val.Kern
-- ==== Proof.Val.RefVal.lean ====
module

public import proofs.«01_k».proof.Proof.Gen.ReferenceIdeal.Frame
public import proofs.«01_k».proof.Proof.Gen.ReferenceIdeal.Skeleton
public import proofs.«01_k».proof.Proof.Val.Spec
public import Idealize.ShloMosaic.Lib.Pointwise
public import Idealize.ShloMosaic.Lib.Pipeline.ValueKit

/-!
The reference's results at an index.
-/

@[expose] public section

set_option maxRecDepth 16384

noncomputable section

namespace Cert.Val.Ref

open Idealize.ShloMosaic Cert.ReferenceIdeal Cert.ReferenceIdeal.Gen

variable (x0 : Vec Ideal S4096x16384 .fp8e4m3) (x1 : Vec Ideal S5120x16384 .fp8e4m3) (x2 : Vec Ideal S5120x512 .i8) (x3 : Vec Ideal S4096x5120 .bf16) (x4 : Vec Ideal S4096x128 .f32)

theorem pay4_apply (v : Vec Ideal S4096x1 .f32) (r : Fin 4096) (n : Fin 5120) :
    k0_pay4 (F := Ideal) x2 x1 x0 v x3 (ix2 r n) = prod x0 x1 x2 r n * v (ix2 (n0 := 4096) (n1 := 1) r 0) + x3 (ix2 r n) := by
  unfold prod
  pointwise [k0_pay4]
  simp only [exp2_byte]

theorem pay5_apply (v : Vec Ideal S4096x1 .f32) (r : Fin 4096) (b : Fin 160) (l : Fin 32) :
    k0_pay5 (F := Ideal) x2 x1 x0 v x3 (ix3 r b l)
      = prod x0 x1 x2 r ⟨32 * b.val + l.val, by omega⟩ * v (ix2 (n0 := 4096) (n1 := 1) r 0) + x3 (ix2 (n0 := 4096) (n1 := 5120) r ⟨32 * b.val + l.val, by omega⟩) := by
  rw [← pay4_apply]
  unfold k0_pay5
  generalize k0_pay4 (F := Ideal) x2 x1 x0 v x3 = y
  pointwise
  exact congrArg y (congrArg (ix2 r) (Fin.ext (by show b.val * 32 + l.val = 32 * b.val + l.val; omega)))

/-- Block maxima of magnitudes. -/
def bmax (f : FVec Ideal S4096x160x32 .f32) : FVec Ideal S4096x160 .f32 :=
  multiReduction .maximumf [2] S4096x160 (absf f) 0xFF800000#32 reduces_S4096x160x32_S4096x160 (.inl rfl) rfl

/-- Which bounds each block maximum reaches. -/
def hits (m : FVec Ideal S4096x160 .f32) : IVec S4096x160x246 32 :=
  extui 32 (cmpf .oge
    (broadcastTo S4096x160x246 (shapeCast S4096x160x1 m shapeCasts_S4096x160_S4096x160x1) broadcasts_S4096x160x1_S4096x160x246)
    (mulf (broadcast S4096x160x246 (Scalar.ofBits .f32 0x43E00000#32))
      (exp2 (sitofp .f32 (subi (iota .tc S4096x160x246 32 [2] iota_S4096x160x246_d2_w32) (broadcast S4096x160x246 126#32))))))
    natLt_1_32

/-- How many bounds each block maximum reaches. -/
def cnt (v : IVec S4096x160x246 32) : IVec S4096x160 32 := multiReductionI .add [2] S4096x160 v 0#32 reduces_S4096x160x246_S4096x160 rfl

theorem pay6_eq (v : Vec Ideal S4096x1 .f32) :
    k0_pay6 (F := Ideal) x2 x1 x0 v x3 = cnt (hits (bmax (k0_pay5 (F := Ideal) x2 x1 x0 v x3))) := rfl

theorem bmax_apply (f : FVec Ideal S4096x160x32 .f32) (r : Fin 4096) (b : Fin 160) :
    bmax f (ix2 r b) = max32 fun l => f (ix3 r b l) := by
  have h : ∀ v : FVec Ideal S4096x160x32 .f32,
      multiReduction .maximumf [2] S4096x160 v 0xFF800000#32 reduces_S4096x160x32_S4096x160 (.inl rfl) rfl (ix2 r b)
        = Finset.fold max (Ideal.ofBits .f32 4286578688#32) (fun x : Fin 32 => v (ix3 r b x)) Finset.univ := fun v => by pointwise
  unfold bmax max32
  rw [h, f32_bot]
  rfl

theorem hits_apply (m : FVec Ideal S4096x160 .f32) (r : Fin 4096) (b : Fin 160) (x : Fin 246) :
    hits m (ix3 r b x)
      = BitVec.setWidth 32 (BitVec.ofBool (decide ((((448 : ℝ) * 2 ^ ((x.val : ℤ) - 126) : ℝ) : EReal) ≤ m (ix2 r b)))) := by
  rw [← bound_eq]
  pointwise [hits]

theorem cnt_apply (v : IVec S4096x160x246 32) (r : Fin 4096) (b : Fin 160) :
    cnt v (ix2 r b) = Finset.fold IntOp.addi 0#32 (fun x : Fin 246 => v (ix3 r b x)) Finset.univ := by
  pointwise [cnt]

theorem count_apply (f : FVec Ideal S4096x160x32 .f32) (r : Fin 4096) (b : Fin 160) :
    cnt (hits (bmax f)) (ix2 r b) = BitVec.ofNat 32 (count (max32 fun l => f (ix3 r b l))) := by
  rw [cnt_apply]
  simp only [hits_apply, bmax_apply]
  rw [fold_count]
  unfold count
  congr 2

theorem ld4 (r : Fin 4096) : View.ld x4 r0_3 (ix2 (n0 := 4096) (n1 := 1) r 0) = x4 (ix2 (n0 := 4096) (n1 := 128) r 0) := by
  pointwise

theorem ld0 : View.ld x0 r0_2 = x0 := by
  funext p
  obtain ⟨r, l, rfl⟩ : ∃ r l, p = ix2 (n0 := 4096) (n1 := 16384) r l := ⟨p 0, p 1, eq_ix2 p⟩
  pointwise

theorem ld1 : View.ld x1 r0_1 = x1 := by
  funext p
  obtain ⟨r, l, rfl⟩ : ∃ r l, p = ix2 (n0 := 5120) (n1 := 16384) r l := ⟨p 0, p 1, eq_ix2 p⟩
  pointwise

theorem ld2 : View.ld x2 r0_0 = x2 := by
  funext p
  obtain ⟨r, l, rfl⟩ : ∃ r l, p = ix2 (n0 := 5120) (n1 := 512) r l := ⟨p 0, p 1, eq_ix2 p⟩
  pointwise

theorem ld3 : View.ld x3 r0_4 = x3 := by
  funext p
  obtain ⟨r, l, rfl⟩ : ∃ r l, p = ix2 (n0 := 4096) (n1 := 5120) r l := ⟨p 0, p 1, eq_ix2 p⟩
  pointwise

theorem out5 (r : Fin 4096) (n : Fin 5120) : out0_5 x0 x1 x2 x3 x4 (ix2 r n) = specY x0 x1 x2 x3 x4 r n := by
  unfold out0_5
  frame_out
  rw [pay4_apply, ld4]
  rfl

theorem pay7_apply (r : Fin 4096) (b : Fin 160) : Gen.k0_pay7 x0 x1 x2 x3 x4 (ix2 r b) = BitVec.ofNat 32 (count (specA x0 x1 x2 x3 x4 r b)) := by
  unfold Gen.k0_pay7
  rw [pay6_eq, count_apply]
  unfold specA
  refine congrArg (fun a => BitVec.ofNat 32 (count (max32 a))) (funext fun l => ?_)
  rw [pay5_apply, ld4, ld0, ld1, ld2, ld3]
  unfold specY
  rfl

theorem pay2_apply (f : FVec Ideal S4096x160x32 .f32) (w : IVec S4096x160 32) (r : Fin 4096) (n : Fin 5120) (a : EReal)
    (hw : w (ix2 (n0 := 4096) (n1 := 160) r ⟨n.val / 32, by omega⟩) = BitVec.ofNat 32 (count a)) :
    k0_pay2 (F := Ideal) f w (ix2 r n)
      = code (f (ix3 (n0 := 4096) (n1 := 160) (n2 := 32) r ⟨n.val / 32, by omega⟩ ⟨n.val % 32, by omega⟩)) (field a) := by
  pointwise [k0_pay2, k0_pay1]
  rw [hw, f32_448, f32_n448]
  unfold code
  rw [← inv_eq a]

theorem pay3_apply (w : IVec S4096x160 32) (r : Fin 4096) (b : Fin 160) (a : EReal)
    (hw : w (ix2 (n0 := 4096) (n1 := 160) r b) = BitVec.ofNat 32 (count a)) :
    k0_pay3 w (ix2 r b) = BitVec.ofNat 8 (field a - 8) := by
  pointwise [k0_pay3, k0_pay1]
  rw [hw, ← byte_eq a]

theorem out6 (r : Fin 4096) (n : Fin 5120) : out0_6 x0 x1 x2 x3 x4 (ix2 r n) = specC x0 x1 x2 x3 x4 r n := by
  unfold out0_6
  frame_out
  rw [pay2_apply _ _ _ _ _ (pay7_apply x0 x1 x2 x3 x4 _ _), pay5_apply, ld4]
  have e : (⟨32 * (n.val / 32) + n.val % 32, by omega⟩ : Fin 5120) = n := Fin.ext (by show 32 * (n.val / 32) + n.val % 32 = n.val; omega)
  rw [e]
  rfl

theorem out7 (r : Fin 4096) (b : Fin 160) : out0_7 x0 x1 x2 x3 x4 (ix2 r b) = specS x0 x1 x2 x3 x4 r b := by
  unfold out0_7
  frame_out
  exact pay3_apply _ _ _ _ (pay7_apply x0 x1 x2 x3 x4 _ _)

end Cert.Val.Ref
-- ==== Proof.Val.Runs.lean ====
module

public import proofs.«01_k».proof.Defs
public import proofs.«01_k».proof.Proof.Gen.Pre_pre
public import proofs.«01_k».proof.Proof.Val.Blocks
public import proofs.«01_k».proof.Proof.Val.RefVal
public import proofs.«01_k».proof.Proof.Gen.ReferenceIdeal.Points
public import Idealize.ShloMosaic.Lib.ReduceAll

/-!
The precondition read at an index, and what the runs of the kernel and of the reference leave in their result arrays.
-/

@[expose] public section

set_option maxRecDepth 16384

noncomputable section

namespace Cert.Val

open Idealize.ShloMosaic Idealize.ShloMosaic.TcCoe Idealize.SL.Sem

/-! ## The precondition -/

/-- The precondition, read: every byte of `w_scales` is between 1 and 254, and a row of `scale` repeats its first entry. -/
theorem pre_bytes (x0 : FVec Ideal Pre_pre.S4096x16384 .fp8e4m3) (x1 : FVec Ideal Pre_pre.S5120x16384 .fp8e4m3) (x2 : IVec Pre_pre.S5120x512 8)
    (x3 : FVec Ideal Pre_pre.S4096x5120 .bf16) (x4 : FVec Ideal Pre_pre.S4096x128 .f32) [Pre_pre.Facts]
    (h : Pre_pre.fn (F := Ideal) x0 x1 x2 x3 x4 = fun _ => 1#1) :
    (∀ p, 1 ≤ (x2 p).toNat ∧ (x2 p).toNat ≤ 254) ∧ ∀ (r : Fin 4096) (l : Fin 128), x4 (ix2 r l) = x4 (ix2 r 0) := by
  haveI : Subsingleton Pre_pre.S_.Idx := ⟨fun a b => funext fun i => i.elim0⟩
  have h0 := congrFun h (fun i => i.elim0)
  have h1 := IntOp.andi_eq_one.1 h0
  have ha := Host.reduce_andi_all _ _ _ _ _ h1.1
  have hb := Host.reduce_andi_all _ _ _ _ _ h1.2
  constructor
  · intro p
    have e := IntOp.andi_eq_one.1 (ha p)
    obtain ⟨e1, e2⟩ := e
    have e1 : IntOp.cmpi .uge (x2 p) 1#8 = 1#1 := e1
    have e2 : IntOp.cmpi .ule (x2 p) 254#8 = 1#1 := e2
    generalize x2 p = b at e1 e2
    revert b
    decide +kernel
  · intro r l
    have e := hb (ix2 (n0 := 4096) (n1 := 128) r l)
    revert e
    pointwise
    intro e
    by_contra hne
    rw [decide_eq_false hne] at e
    exact absurd e (by decide)

end Cert.Val

namespace Cert.Val.Ref

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg) (c : Dev nD)

abbrev X0 : (⟨2, ![4096, 16384]⟩ : Shape).Idx → EReal := m ((c : Thread nD τ).loc main_arg0)
abbrev X1 : (⟨2, ![5120, 16384]⟩ : Shape).Idx → EReal := m ((c : Thread nD τ).loc main_arg1)
abbrev X2 : (⟨2, ![5120, 512]⟩ : Shape).Idx → BitVec 8 := m ((c : Thread nD τ).loc main_arg2)
abbrev X3 : (⟨2, ![4096, 5120]⟩ : Shape).Idx → EReal := m ((c : Thread nD τ).loc main_arg3)
abbrev X4 : (⟨2, ![4096, 128]⟩ : Shape).Idx → EReal := m ((c : Thread nD τ).loc main_arg4)

theorem idx : ∀ t : Fin grid0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) := by decide +kernel

theorem blk0 (t : Fin cfg0.N) : iblk m c 0 t = X0 m c := by funext y; blk_ext [iblk, V, idx t]
theorem blk1 (t : Fin cfg0.N) : iblk m c 1 t = X1 m c := by funext y; blk_ext [iblk, V, idx t]
theorem blk2 (t : Fin cfg0.N) : iblk m c 2 t = X2 m c := by funext y; blk_ext [iblk, V, idx t]
theorem blk3 (t : Fin cfg0.N) : iblk m c 3 t = X3 m c := by funext y; blk_ext [iblk, V, idx t]
theorem blk4 (t : Fin cfg0.N) : iblk m c 4 t = X4 m c := by funext y; blk_ext [iblk, V, idx t]

theorem arr5 : (dats m 0 c).arrAt 5 cfg0.N = fun p : S4096x5120.Idx => specY (X0 m c) (X1 m c) (X2 m c) (X3 m c) (X4 m c) (p 0) (p 1) := by
  refine (dats m 0 c).arrAt_eq_of_covers 5 _ (by decide +kernel) fun t hf y => ?_
  blk_simp
  rw [after0_5, blk0, blk1, blk2, blk3, blk4]
  obtain ⟨r, n, rfl⟩ : ∃ r n, y = ix2 (n0 := 4096) (n1 := 5120) r n := ⟨y 0, y 1, eq_ix2 y⟩
  refine (out5 _ _ _ _ _ r n).trans ?_
  exact congrArg₂ (specY (X0 m c) (X1 m c) (X2 m c) (X3 m c) (X4 m c)) (Fin.ext (by blk_simp [idx t])) (Fin.ext (by blk_simp [idx t]))

theorem arr6 : (dats m 0 c).arrAt 6 cfg0.N = fun p : S4096x5120.Idx => specC (X0 m c) (X1 m c) (X2 m c) (X3 m c) (X4 m c) (p 0) (p 1) := by
  refine (dats m 0 c).arrAt_eq_of_covers 6 _ (by decide +kernel) fun t hf y => ?_
  blk_simp
  rw [after0_6, blk0, blk1, blk2, blk3, blk4]
  obtain ⟨r, n, rfl⟩ : ∃ r n, y = ix2 (n0 := 4096) (n1 := 5120) r n := ⟨y 0, y 1, eq_ix2 y⟩
  refine (out6 _ _ _ _ _ r n).trans ?_
  exact congrArg₂ (specC (X0 m c) (X1 m c) (X2 m c) (X3 m c) (X4 m c)) (Fin.ext (by blk_simp [idx t])) (Fin.ext (by blk_simp [idx t]))

theorem arr7 : (dats m 0 c).arrAt 7 cfg0.N = fun p : S4096x160.Idx => specS (X0 m c) (X1 m c) (X2 m c) (X3 m c) (X4 m c) (p 0) (p 1) := by
  refine (dats m 0 c).arrAt_eq_of_covers 7 _ (by decide +kernel) fun t hf y => ?_
  blk_simp
  rw [after0_7, blk0, blk1, blk2, blk3, blk4]
  obtain ⟨r, n, rfl⟩ : ∃ r n, y = ix2 (n0 := 4096) (n1 := 160) r n := ⟨y 0, y 1, eq_ix2 y⟩
  refine (out7 _ _ _ _ _ r n).trans ?_
  exact congrArg₂ (specS (X0 m c) (X1 m c) (X2 m c) (X3 m c) (X4 m c)) (Fin.ext (by blk_simp [idx t])) (Fin.ext (by blk_simp [idx t]))

theorem run : θ_run defs (onTc (τ := τ) (main (F := Ideal))) ⟨m, fun _ => 0, ρ⟩ (fun r => ∀ c : Dev nD,
    r.2.mem ((c.tc : Thread nD τ).loc main_v0_0) = (fun p : S4096x5120.Idx => specY (X0 m c) (X1 m c) (X2 m c) (X3 m c) (X4 m c) (p 0) (p 1))
    ∧ r.2.mem ((c.tc : Thread nD τ).loc main_v0_1) = (fun p : S4096x5120.Idx => specC (X0 m c) (X1 m c) (X2 m c) (X3 m c) (X4 m c) (p 0) (p 1))
    ∧ r.2.mem ((c.tc : Thread nD τ).loc main_v0_2) = (fun p : S4096x160.Idx => specS (X0 m c) (X1 m c) (X2 m c) (X3 m c) (X4 m c) (p 0) (p 1))) :=
  (θ_run defs _ _).mono (fun _ h c => ⟨(h.out_eq c 5).trans (arr5 m c), (h.out_eq c 6).trans (arr6 m c), (h.out_eq c 7).trans (arr7 m c)⟩) (run_main m ρ)

end Cert.Val.Ref

namespace Cert.Val.Kern

open Idealize.ShloMosaic Idealize.ShloMosaic.TcCoe Idealize.SL.Sem Cert.KernelIdeal Cert.KernelIdeal.Gen Cert.KernelIdeal.Mm

variable (m : (ℓ : Loc nD τ sig) → Buf (Elt Ideal) ℓ) (ρ : Dev nD → PrngReg)

theorem run (h : ∀ c, Good m c) : θ_run defs (onTc (τ := τ) (main (F := Ideal))) ⟨m, fun _ => 0, ρ⟩ (fun r => ∀ c : Dev nD,
    r.2.mem ((c.tc : Thread nD τ).loc main_v0_0) = (fun p : S4096x5120.Idx => sY m c (p 0) (p 1))
    ∧ r.2.mem ((c.tc : Thread nD τ).loc main_v0_1) = (fun p : S4096x5120.Idx => sC m c (p 0) (p 1))
    ∧ r.2.mem ((c.tc : Thread nD τ).loc main_v0_2) = (fun p : S4096x160.Idx => sS m c (p 0) (p 1))) :=
  (θ_run defs _ _).mono (fun _ hr c => ⟨(hr.1.out_eq c 5).trans (arr5 m c (h c)), (hr.1.out_eq c 6).trans (arr6 m c (h c)), (hr.1.out_eq c 7).trans (arr7 m c (h c))⟩)
    (Mm.run_main m ρ)

/-- The arguments end unchanged and every counter at zero. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (fun _ _ => rfl) ((θ_run defs _ _).mono (fun _ h => h.1) (Mm.run_main m ρ)))
    ((θ_run defs _ _).mono (fun _ h => h.2) (Mm.run_main m ρ))

end Cert.Val.Kern
-- ==== Proof.Quant.Spec.lean ====
module

public import proofs.«01_k».proof.Proof.Val.Spec

/-!
The quantiser's results as plain functions of its operand: a row's largest magnitude, and from its exponent field the codes and the scale.
-/

@[expose] public section

noncomputable section

namespace Cert.Val.Quant

open Idealize.ShloMosaic

/-- The largest magnitude of a row. -/
def rowMax {R : ℕ} (x : (⟨2, ![R, 16384]⟩ : Shape).Idx → EReal) (r : Fin R) : EReal :=
  Finset.fold max ⊥ (fun k : Fin 16384 => max (x (ix2 r k)) (-(x (ix2 r k)))) Finset.univ

/-- A code. -/
def specC {R : ℕ} (x : (⟨2, ![R, 16384]⟩ : Shape).Idx → EReal) (r : Fin R) (k : Fin 16384) : EReal :=
  code (x (ix2 r k)) (field (rowMax x r))

/-- A row's scale. -/
def specS {R : ℕ} (x : (⟨2, ![R, 16384]⟩ : Shape).Idx → EReal) (r : Fin R) : EReal := pw (field (rowMax x r) - 8)

/-- The reference's scale from its exponent. -/
theorem scale_eq (a : EReal) :
    FloatOps.exp2 (F := Ideal) (φ := .f32) (FloatOps.sitofp .f32 (expo (BitVec.ofNat 32 (count a)))) = pw (field a - 8) := by
  have e := expo_toInt ⟨count a, by have := count_le a; omega⟩
  have hf : ((field a : ℕ) : ℤ) = if count a = 0 then 135 else (count a : ℤ) + 9 := by
    unfold field; split <;> simp
  rw [← hf] at e
  have e' : (expo (BitVec.ofNat 32 (count a))).toInt = (field a : ℤ) - 135 := e
  show Ideal.exp2 ((((expo (BitVec.ofNat 32 (count a))).toInt : ℝ) : EReal)) = _
  rw [e', exp2_int]
  unfold pw
  have hle := field_le a
  have : ((field a - 8 : ℕ) : ℤ) - 127 = (field a : ℤ) - 135 := by omega
  rw [this]

end Cert.Val.Quant
-- ==== Proof.Quant.Tile.lean ====
module

public import proofs.«01_k».proof.Proof.Gen.QuantiseIdeal.Frame
public import proofs.«01_k».proof.Proof.Gen.QuantiseIdeal.Skeleton
public import proofs.«01_k».proof.Proof.Quant.Spec
public import proofs.«01_k».proof.Proof.Val.TileVals
public import Idealize.ShloMosaic.Lib.Pointwise
public import Idealize.ShloMosaic.Lib.Bf16Pair
public import Idealize.ShloMosaic.Lib.BitcastPair
public import Idealize.ShloMosaic.Lib.Pipeline.ValueKit

/-!
One grid point of the quantiser at an index: the row maximum, the exponent field, the codes and the scale.
-/

@[expose] public section

set_option maxRecDepth 16384

noncomputable section

namespace Cert.Val.Quant.Kern

open Idealize.ShloMosaic Cert.QuantiseIdeal Cert.QuantiseIdeal.Gen
open Cert.Val.Kern (half half_toNat half_of_word inv_half half_floor)

variable (x0 : Vec Ideal S128x16384 .bf16)

/-! ## The maximum over the slices -/

theorem inb (n : ℕ) : ∀ a, (![0, 128 * (n % 128)] : Fin 2 → ℕ) a + S128x128.size a ≤ S128x16384.size a := by
  intro a
  match a with
  | ⟨0, _⟩ => show 0 + 128 ≤ 128; omega
  | ⟨1, _⟩ => show 128 * (n % 128) + 128 ≤ 16384; omega

/-- Slice `n` of the block: 128 columns. -/
abbrev rect (n : ℕ) : Rect S128x16384 := Rect.unit (s := S128x16384) ![0, 128 * (n % 128)] S128x128.size (inb n)

/-- The column that lane `l` of slice `n` holds. -/
abbrev col (n : ℕ) (l : Fin 128) : Fin 16384 := ⟨128 * (n % 128) + l.val, by omega⟩

theorem emb_rect (n : ℕ) (r l : Fin 128) : (rect n).emb (ix2 (n0 := 128) (n1 := 128) r l) = ix2 (n0 := 128) (n1 := 16384) r (col n l) := by
  funext a
  match a with
  | ⟨0, _⟩ => exact Fin.ext (by show 0 + 1 * r.val = r.val; omega)
  | ⟨1, _⟩ => exact Fin.ext (by show 128 * (n % 128) + 1 * l.val = 128 * (n % 128) + l.val; omega)

/-- Slice `n`. -/
def sl (n : ℕ) : FVec Ideal S128x128 .bf16 := View.ld x0 (rect n)

theorem sl_apply (n : ℕ) (r l : Fin 128) : sl x0 n (ix2 r l) = x0 (ix2 (n0 := 128) (n1 := 16384) r (col n l)) :=
  congrArg x0 (emb_rect n r l)

/-- The running maximum after slices `0` to `n`. -/
def chain (s : ℕ → FVec Ideal S128x128 .bf16) : ℕ → FVec Ideal S128x128 .bf16
  | 0 => absf (s 0)
  | n + 1 => maximumf (chain s n) (absf (s (n + 1)))

theorem chain_apply (s : ℕ → FVec Ideal S128x128 .bf16) (r l : Fin 128) (n : ℕ) :
    chain s n (ix2 r l) = (Finset.range (n + 1)).sup fun j => absf (s j) (ix2 r l) := by
  induction n with
  | zero => rw [Finset.range_one, Finset.sup_singleton]; rfl
  | succ n ih =>
    rw [Finset.range_add_one, Finset.sup_insert, ← ih]
    exact max_comm _ _

/-! ## The maximum over the lanes -/

/-- A tile split into the rows of its words and put together again. -/
def pair (v : FVec Ideal S128x128 .bf16) : FVec Ideal S128x128 .bf16 :=
  interleaveRows S128x128 (rowsOfParity 0 S64x128 v bitcasts_S128x128_w16_S64x128_w32) (rowsOfParity 1 S64x128 v bitcasts_S128x128_w16_S64x128_w32)
    bitcasts_S128x128_w16_S64x128_w32

/-- A tile rotated as words. -/
def roll (s : BitVec 32) (v : FVec Ideal S128x128 .bf16) : FVec Ideal S128x128 .bf16 :=
  interleaveRows S128x128 (dynamicRotate 1 s none (rowsOfParity 0 S64x128 v bitcasts_S128x128_w16_S64x128_w32) rotates_S64x128_d1)
    (dynamicRotate 1 s none (rowsOfParity 1 S64x128 v bitcasts_S128x128_w16_S64x128_w32) rotates_S64x128_d1)
    bitcasts_S128x128_w16_S64x128_w32

/-- The larger of a tile and its rotation. -/
def rollMax (s : BitVec 32) (v : FVec Ideal S128x128 .bf16) : FVec Ideal S128x128 .bf16 := maximumf (pair v) (roll s v)

/-- The row maximum in every lane. -/
def rowsMax (v : FVec Ideal S128x128 .bf16) : FVec Ideal S128x128 .f32 :=
  extf .f32 (pair (rollMax 1#32 (rollMax 2#32 (rollMax 4#32 (rollMax 8#32 (rollMax 16#32 (rollMax 32#32 (rollMax 64#32 v)))))))) bitsLt_bf16_f32

theorem pair_eq (v : FVec Ideal S128x128 .bf16) : pair v = v := interleaveRows_rowsOfParity _ v

/-- A tile rotated along the lanes. -/
def rot (s : BitVec 32) (v : FVec Ideal S128x128 .bf16) : FVec Ideal S128x128 .bf16 := fun p =>
  v (ix2 (n0 := 128) (n1 := 128) (p 0) ⟨((p 1).val + 128 - s.toNat % 128) % 128, Nat.mod_lt _ (by decide)⟩)

theorem rotate_rows (s : BitVec 32) (v : FVec Ideal S128x128 .bf16) (k : Fin 2) :
    dynamicRotate 1 s none (rowsOfParity k S64x128 v bitcasts_S128x128_w16_S64x128_w32) rotates_S64x128_d1
      = rowsOfParity k S64x128 (rot s v) bitcasts_S128x128_w16_S64x128_w32 := by
  funext p
  refine congrArg v (funext fun a => ?_)
  match a with
  | ⟨0, _⟩ => rfl
  | ⟨1, _⟩ => rfl

theorem roll_eq (s : BitVec 32) (v : FVec Ideal S128x128 .bf16) : roll s v = rot s v := by
  unfold roll
  rw [rotate_rows, rotate_rows]
  exact interleaveRows_rowsOfParity _ _

/-- The largest of a row over the lanes congruent to `l` modulo `t`. -/
def cls (v : FVec Ideal S128x128 .bf16) (t : ℕ) (r l : Fin 128) : EReal :=
  (Finset.univ.filter fun k : Fin 128 => k.val % t = l.val % t).sup fun k => v (ix2 r k)

/-- One halving of the modulus. -/
theorem rollMax_cls (v u : FVec Ideal S128x128 .bf16) (s : BitVec 32) (t : ℕ) (hs : s.toNat = t)
    (ht : t = 64 ∨ t = 32 ∨ t = 16 ∨ t = 8 ∨ t = 4 ∨ t = 2 ∨ t = 1)
    (h : ∀ r l : Fin 128, u (ix2 r l) = cls v (2 * t) r l) (r l : Fin 128) : rollMax s u (ix2 r l) = cls v t r l := by
  unfold rollMax
  rw [pair_eq, roll_eq]
  show max (u (ix2 r l)) (u (ix2 r ⟨(l.val + 128 - s.toNat % 128) % 128, Nat.mod_lt _ (by decide)⟩)) = _
  rw [h, h]
  unfold cls
  rw [← Finset.sup_union]
  congr 1
  ext k
  simp only [Finset.mem_union, Finset.mem_filter, Finset.mem_univ, true_and, hs]
  have hk := k.isLt
  have hl := l.isLt
  rcases ht with rfl | rfl | rfl | rfl | rfl | rfl | rfl <;> omega

theorem rowsMax_apply (v : FVec Ideal S128x128 .bf16) (r l : Fin 128) :
    rowsMax v (ix2 r l) = Finset.univ.sup fun k : Fin 128 => v (ix2 r k) := by
  have h0 : ∀ r l : Fin 128, v (ix2 r l) = cls v (2 * 64) r l := fun r l => by
    unfold cls
    rw [show (Finset.univ.filter fun k : Fin 128 => k.val % (2 * 64) = l.val % (2 * 64)) = {l} from ?_, Finset.sup_singleton]
    ext k
    simp only [Finset.mem_filter, Finset.mem_univ, true_and, Finset.mem_singleton, Fin.ext_iff]
    omega
  have h1 := rollMax_cls v _ 64#32 64 rfl (by decide) h0
  have h2 := rollMax_cls v _ 32#32 32 rfl (by decide) h1
  have h3 := rollMax_cls v _ 16#32 16 rfl (by decide) h2
  have h4 := rollMax_cls v _ 8#32 8 rfl (by decide) h3
  have h5 := rollMax_cls v _ 4#32 4 rfl (by decide) h4
  have h6 := rollMax_cls v _ 2#32 2 rfl (by decide) h5
  have h7 := rollMax_cls v _ 1#32 1 rfl (by decide) h6
  have ext' : ∀ (g : FVec Ideal S128x128 .bf16) (p : S128x128.Idx), extf .f32 g bitsLt_bf16_f32 p = g p := fun g p => rfl
  unfold rowsMax
  rw [ext', pair_eq, h7]
  unfold cls
  congr 1
  ext k
  simp only [Finset.mem_filter, Finset.mem_univ, true_and, iff_true]
  omega

/-- The row maximum over slices and lanes is the maximum over columns. -/
theorem mx_apply (r l : Fin 128) : rowsMax (chain (sl x0) 127) (ix2 r l) = rowMax x0 r := by
  rw [rowsMax_apply]
  simp only [chain_apply]
  unfold rowMax
  show _ = Finset.univ.sup fun k : Fin 16384 => max (x0 (ix2 r k)) (-(x0 (ix2 r k)))
  have e : ∀ (j : ℕ) (k : Fin 128), absf (sl x0 j) (ix2 r k) = max (x0 (ix2 r (col j k))) (-(x0 (ix2 r (col j k)))) := fun j k => by
    show max (sl x0 j (ix2 r k)) (-(sl x0 j (ix2 r k))) = _
    rw [sl_apply]
  apply le_antisymm
  · refine Finset.sup_le fun k _ => Finset.sup_le fun j _ => ?_
    rw [e]
    exact Finset.le_sup (f := fun k : Fin 16384 => max (x0 (ix2 r k)) (-(x0 (ix2 r k)))) (Finset.mem_univ (col j k))
  · refine Finset.sup_le fun k _ => ?_
    have hk := k.isLt
    have hc : k = col (k.val / 128) ⟨k.val % 128, by omega⟩ := Fin.ext (by show k.val = 128 * (k.val / 128 % 128) + k.val % 128; omega)
    refine le_trans (le_trans (le_of_eq ?_) (Finset.le_sup (f := fun j => absf (sl x0 j) (ix2 r ⟨k.val % 128, by omega⟩))
      (Finset.mem_range.2 (show k.val / 128 < 127 + 1 by omega))))
      (Finset.le_sup (f := fun l : Fin 128 => (Finset.range (127 + 1)).sup fun j => absf (sl x0 j) (ix2 r l)) (Finset.mem_univ (⟨k.val % 128, by omega⟩ : Fin 128)))
    show _ = absf (sl x0 (k.val / 128)) (ix2 r ⟨k.val % 128, _⟩)
    rw [e, ← hc]

/-! ## The exponent field -/

/-- One step of the search for the exponent field. -/
def raise (b : BitVec 32) (m : FVec Ideal S128x128 .f32) (f : IVec S128x128 32) : IVec S128x128 32 :=
  select (cmpf .oge m (bitcastToFloat .f32
      (subi (shli (addi f (broadcast S128x128 b)) (broadcast S128x128 23#32)) (broadcast S128x128 2097152#32))))
    (addi f (broadcast S128x128 b)) f

/-- The exponent field before the floor at 10. -/
def rawField (m : FVec Ideal S128x128 .f32) : IVec S128x128 32 :=
  raise 1#32 m (raise 2#32 m (raise 4#32 m (raise 8#32 m (raise 16#32 m (raise 32#32 m (raise 64#32 m (raise 128#32 m
    (broadcast S128x128 0#32))))))))

/-- The exponent fields as words, two rows to a word. -/
def words (f : IVec S128x128 32) : IVec S64x128 32 :=
  bitcast S64x128 32 (trunci 16 (shli (select (cmpi .slt f (broadcast S128x128 10#32)) (broadcast S128x128 135#32) f)
    (broadcast S128x128 7#32)) natLt_16_32) bitcasts_S128x128_w16_S64x128_w32

/-- The inverse of the scale. -/
def inverse (w : IVec S64x128 32) : FVec Ideal S128x128 .bf16 :=
  bitcastToFloat .bf16 (bitcast S128x128 16 (subi (broadcast S64x128 2197848832#32) w) bitcasts_S64x128_w32_S128x128_w16)

theorem pay152_eq : k0_pay152 (F := Ideal) x0 = chain (sl x0) 119 := rfl

theorem pay156_eq : k0_pay156 (F := Ideal) x0 = rowsMax (chain (sl x0) 127) := rfl

theorem raise_apply (b : BitVec 32) (m : FVec Ideal S128x128 .f32) (f : IVec S128x128 32) (r l : Fin 128) :
    raise b m f (ix2 r l) = raiseAt (m (ix2 r l)) b (f (ix2 r l)) := by
  unfold raiseAt
  pointwise [raise]
  rfl

theorem rawField_apply (m : FVec Ideal S128x128 .f32) (r l : Fin 128) :
    ∃ N : ℕ, N ≤ 255 ∧ rawField m (ix2 r l) = BitVec.ofNat 32 N ∧ (if N < 10 then 135 else N) = field (m (ix2 r l)) := by
  unfold rawField
  simp only [raise_apply]
  exact raw_field (m (ix2 r l))

/-- Words read as halfwords: row `r` is half `r mod 2` of word row `r / 2`. -/
theorem half_apply (w : S64x128.Idx → BitVec 32) (r l : Fin 128) :
    bitcast S128x128 16 w bitcasts_S64x128_w32_S128x128_w16 (ix2 r l)
      = (w (ix2 (n0 := 64) ⟨r.val / 2, by omega⟩ l)).extractLsb' (16 * (r.val % 2)) 16 := by
  rw [bitcast_32_16]
  congr 1
  congr 1
  funext a
  match a with
  | ⟨0, _⟩ => rfl
  | ⟨1, _⟩ => rfl

/-- Halfwords read as words. -/
theorem word_apply (x : S128x128.Idx → BitVec 16) (r : Fin 64) (l : Fin 128) :
    bitcast S64x128 32 x bitcasts_S128x128_w16_S64x128_w32 (ix2 r l)
      = x (ix2 (n0 := 128) ⟨2 * r.val + 1, by omega⟩ l) ++ x (ix2 (n0 := 128) ⟨2 * r.val, by omega⟩ l) := by
  rw [bitcast_16_32]
  congr 1
  · congr 1
    funext a
    match a with
    | ⟨0, _⟩ => rfl
    | ⟨1, _⟩ => rfl
  · congr 1
    funext a
    match a with
    | ⟨0, _⟩ => rfl
    | ⟨1, _⟩ => rfl

/-- The exponent field of a row. -/
def fld (r : Fin 128) : ℕ := field (rowMax x0 r)

theorem fld_le (r : Fin 128) : 10 ≤ fld x0 r ∧ fld x0 r ≤ 255 := field_le _

/-- The words of the block's exponent fields. -/
def wd : IVec S64x128 32 := words (rawField (rowsMax (chain (sl x0) 127)))

theorem wd_apply (r : Fin 64) (l : Fin 128) :
    wd x0 (ix2 r l) = half (fld x0 ⟨2 * r.val + 1, by omega⟩) ++ half (fld x0 ⟨2 * r.val, by omega⟩) := by
  have h : ∀ r : Fin 128, BitVec.setWidth 16 (IntOp.shli .vector
      (Scalar.select (IntOp.cmpi .slt (rawField (rowsMax (chain (sl x0) 127)) (ix2 r l)) 10#32) 135#32
        (rawField (rowsMax (chain (sl x0) 127)) (ix2 r l))) 7#32) = half (fld x0 r) := by
    intro r
    obtain ⟨N, hN, e, hf⟩ := rawField_apply (rowsMax (chain (sl x0) 127)) r l
    rw [e]
    refine (half_floor ⟨N, by omega⟩).trans ?_
    show half (if N < 10 then 135 else N) = _
    rw [hf, mx_apply]
    rfl
  unfold wd words
  rw [word_apply]
  generalize rawField (rowsMax (chain (sl x0) 127)) = f at h
  rw [← h, ← h]
  rfl

/-- A property of a row from the two rows of its word. -/
theorem row_split (r : Fin 128) (f : Fin 128 → ℕ) :
    (if r.val % 2 = 0 then f ⟨2 * (r.val / 2), by omega⟩ else f ⟨2 * (r.val / 2) + 1, by omega⟩) = f r := by
  by_cases h : r.val % 2 = 0
  · rw [if_pos h]; exact congrArg f (Fin.ext (by show 2 * (r.val / 2) = r.val; omega))
  · rw [if_neg h]; exact congrArg f (Fin.ext (by show 2 * (r.val / 2) + 1 = r.val; omega))

theorem inverse_apply (r l : Fin 128) : inverse (wd x0) (ix2 r l) = pw (262 - fld x0 r) := by
  have hw := wd_apply x0 ⟨r.val / 2, by omega⟩ l
  have hf := fld_le x0 r
  unfold inverse
  generalize wd x0 = w at hw
  pointwise [half_apply]
  rw [hw, inv_half _ _ _ (Nat.mod_lt _ (by decide)) (fld_le _ _).2 (fld_le _ _).2, row_split r fun r => fld x0 r]
  unfold half
  exact bf16_pw _ (by omega) (by omega)

/-- Half `q` of the scale word. -/
theorem scale_half (f1 f0 q : ℕ) (hq : q < 2) (h1 : 10 ≤ f1 ∧ f1 ≤ 255) (h0 : 10 ≤ f0 ∧ f0 ≤ 255) :
    (IntOp.subi (half f1 ++ half f0) 67109888#32).extractLsb' (16 * q) 16 = half ((if q = 0 then f0 else f1) - 8) := by
  have e : (half f1 ++ half f0).toNat = 65536 * (128 * f1) + 128 * f0 := by
    rw [BitVec.toNat_append, ← Nat.shiftLeft_add_eq_or_of_lt (half f0).isLt, Nat.shiftLeft_eq, half_toNat f1 h1.2, half_toNat f0 h0.2]; omega
  apply BitVec.eq_of_toNat_eq
  unfold IntOp.subi
  rw [BitVec.extractLsb'_toNat, BitVec.toNat_sub, Nat.shiftRight_eq_div_pow, e]
  have : q = 0 ∨ q = 1 := by omega
  rcases this with rfl | rfl
  · rw [if_pos rfl, half_toNat _ (by omega)]
    simp only [BitVec.toNat_ofNat]; omega
  · rw [if_neg (by decide), half_toNat _ (by omega)]
    simp only [BitVec.toNat_ofNat]; omega

/-! ## The results -/

/-- The codes of a slice. -/
def quant (inv v : FVec Ideal S128x128 .bf16) : FVec Ideal S128x128 .fp8e4m3 :=
  truncf .fp8e4m3 (minimumf (broadcast S128x128 (Scalar.ofBits .bf16 0x43E0#16)) (maximumf (broadcast S128x128 (Scalar.ofBits .bf16 0xC3E0#16)) (mulf v inv)))
    bitsLt_fp8e4m3_bf16

theorem quant_apply (n : ℕ) (r l : Fin 128) : quant (inverse (wd x0)) (sl x0 n) (ix2 r l) = specC x0 r (col n l) := by
  have h := inverse_apply x0 r l
  have h' := sl_apply x0 n r l
  generalize inverse (wd x0) = w at h
  generalize sl x0 n = s at h'
  pointwise [quant]
  rw [h, h']
  unfold specC code fld
  congr 1
  · exact bf16_448
  · congr 1; exact bf16_n448

/-- The pieces of the codes, the last slice first. -/
def pieces : List (View.Piece (Elt Ideal) S128x16384 .fp8e4m3) :=
  (List.range 128).reverse.map fun n => ⟨rect n, quant (inverse (wd x0)) (sl x0 n)⟩

theorem pay161_eq : k0_pay161 (F := Ideal) x0 = inverse (wd x0) := rfl

theorem out1_eq : out0_1 x0 = View.canon (pieces x0) := rfl

theorem out1 (r : Fin 128) (k : Fin 16384) : out0_1 x0 (ix2 r k) = specC x0 r k := by
  rw [out1_eq]
  refine View.canon_apply_of_pieces (Val := Elt Ideal) (e := .fp8e4m3) (fun p : S128x16384.Idx => specC x0 (p 0) (p 1)) (pieces x0) (fun p hp x => ?_) (ix2 r k)
    (View.cover_of_tiled (pieces x0) S128x128.size (by rfl) (ix2 r k))
  obtain ⟨n, _, rfl⟩ := List.mem_map.1 hp
  obtain ⟨r, l, rfl⟩ : ∃ r l, x = ix2 (n0 := 128) (n1 := 128) r l := ⟨x 0, x 1, eq_ix2 x⟩
  rw [emb_rect]
  exact quant_apply x0 n r l

/-- The scale of a block. -/
def scale (w : IVec S64x128 32) : FVec Ideal S128x128 .f32 :=
  extf .f32 (bitcastToFloat .bf16 (bitcast S128x128 16 (subi w (broadcast S64x128 67109888#32)) bitcasts_S64x128_w32_S128x128_w16)) bitsLt_bf16_f32

theorem scale_apply (r l : Fin 128) : scale (wd x0) (ix2 r l) = specS x0 r := by
  have hw := wd_apply x0 ⟨r.val / 2, by omega⟩ l
  have hf := fld_le x0 r
  have ext' : ∀ (g : FVec Ideal S128x128 .bf16) (p : S128x128.Idx), extf .f32 g bitsLt_bf16_f32 p = g p := fun g p => rfl
  unfold scale
  rw [ext']
  generalize wd x0 = w at hw
  pointwise [half_apply]
  rw [hw, scale_half _ _ _ (Nat.mod_lt _ (by decide)) (fld_le _ _) (fld_le _ _), row_split r fun r => fld x0 r]
  unfold half
  exact bf16_pw _ (by omega) (by omega)

theorem out2_eq : out0_2 x0 = View.canon [⟨r0_128, scale (wd x0)⟩] := rfl

theorem out2 (r l : Fin 128) : out0_2 x0 (ix2 r l) = specS x0 r := by
  rw [out2_eq]
  have h := scale_apply x0 r l
  generalize scale (wd x0) = v at h
  frame_out
  exact h

end Cert.Val.Quant.Kern
-- ==== Proof.Quant.RefVal.lean ====
module

public import proofs.«01_k».proof.Proof.Gen.QuantiseReferenceIdeal.Frame
public import proofs.«01_k».proof.Proof.Gen.QuantiseReferenceIdeal.Skeleton
public import proofs.«01_k».proof.Proof.Quant.Spec
public import Idealize.ShloMosaic.Lib.Pointwise
public import Idealize.ShloMosaic.Lib.Pipeline.ValueKit

/-!
The quantiser reference's results at an index.
-/

@[expose] public section

set_option maxRecDepth 16384

noncomputable section

namespace Cert.Val.Quant.Ref

open Idealize.ShloMosaic Cert.QuantiseReferenceIdeal Cert.QuantiseReferenceIdeal.Gen

variable (x0 : Vec Ideal S4096x16384 .bf16)

/-- Row maxima of magnitudes. -/
def rmax (f : FVec Ideal S4096x16384 .f32) : FVec Ideal S4096 .f32 :=
  multiReduction .maximumf [1] S4096 (absf f) 0xFF800000#32 reduces_S4096x16384_S4096 (.inl rfl) rfl

/-- Which bounds each row maximum reaches. -/
def hits (m : FVec Ideal S4096 .f32) : IVec S4096x246 32 :=
  extui 32 (cmpf .oge
    (broadcastTo S4096x246 (shapeCast S4096x1 m shapeCasts_S4096_S4096x1) broadcasts_S4096x1_S4096x246)
    (mulf (broadcast S4096x246 (Scalar.ofBits .f32 0x43E00000#32))
      (exp2 (sitofp .f32 (subi (iota .tc S4096x246 32 [1] iota_S4096x246_d1_w32) (broadcast S4096x246 126#32))))))
    natLt_1_32

/-- How many bounds each row maximum reaches. -/
def cnt (v : IVec S4096x246 32) : IVec S4096 32 := multiReductionI .add [1] S4096 v 0#32 reduces_S4096x246_S4096 rfl

/-- The exponent from the count. -/
def expos (w : IVec S4096 32) : IVec S4096x1 32 :=
  select (cmpi .eq (subi (shapeCast S4096x1 w shapeCasts_S4096_S4096x1) (broadcast S4096x1 126#32)) (broadcast S4096x1 4294967170#32))
    (broadcast S4096x1 0#32) (subi (shapeCast S4096x1 w shapeCasts_S4096_S4096x1) (broadcast S4096x1 126#32))

theorem pay2_eq (x : Vec Ideal S4096x16384 .bf16) :
    k0_pay2 (F := Ideal) x = expos (cnt (hits (rmax (k0_pay1 (F := Ideal) x)))) := rfl

theorem rmax_apply (x : Vec Ideal S4096x16384 .bf16) (r : Fin 4096) :
    rmax (k0_pay1 (F := Ideal) x) (ix1 r) = rowMax x r := by
  have h : ∀ v : FVec Ideal S4096x16384 .f32,
      multiReduction .maximumf [1] S4096 v 0xFF800000#32 reduces_S4096x16384_S4096 (.inl rfl) rfl (ix1 r)
        = Finset.fold max (Ideal.ofBits .f32 4286578688#32) (fun k : Fin 16384 => v (ix2 r k)) Finset.univ := fun v => by pointwise
  unfold rmax rowMax
  rw [h, f32_bot]
  rfl

theorem hits_apply (m : FVec Ideal S4096 .f32) (r : Fin 4096) (x : Fin 246) :
    hits m (ix2 r x)
      = BitVec.setWidth 32 (BitVec.ofBool (decide ((((448 : ℝ) * 2 ^ ((x.val : ℤ) - 126) : ℝ) : EReal) ≤ m (ix1 r)))) := by
  rw [← bound_eq]
  pointwise [hits]

theorem cnt_apply (v : IVec S4096x246 32) (r : Fin 4096) :
    cnt v (ix1 r) = Finset.fold IntOp.addi 0#32 (fun x : Fin 246 => v (ix2 r x)) Finset.univ := by
  pointwise [cnt]

theorem expos_apply (w : IVec S4096 32) (r : Fin 4096) (c : Fin 1) : expos w (ix2 r c) = expo (w (ix1 r)) := by
  pointwise [expos]

theorem pay2_apply (x : Vec Ideal S4096x16384 .bf16) (r : Fin 4096) (c : Fin 1) :
    k0_pay2 (F := Ideal) x (ix2 r c) = expo (BitVec.ofNat 32 (count (rowMax x r))) := by
  rw [pay2_eq, expos_apply, cnt_apply]
  simp only [hits_apply, rmax_apply]
  rw [fold_count]
  unfold count
  congr 3

theorem pay3_apply (x : Vec Ideal S4096x16384 .bf16) (r : Fin 4096) (k : Fin 16384) :
    k0_pay3 (F := Ideal) x (ix2 r k) = specC x r k := by
  have h := fun c => pay2_apply x r c
  unfold k0_pay3
  generalize k0_pay2 (F := Ideal) x = w at h
  pointwise [k0_pay1]
  rw [h, f32_448, f32_n448]
  unfold specC code
  rw [← inv_eq (rowMax x r)]

theorem pay4_apply (x : Vec Ideal S4096x16384 .bf16) (r : Fin 4096) (l : Fin 128) :
    k0_pay4 (F := Ideal) x (ix2 r l) = specS x r := by
  have h := fun c => pay2_apply x r c
  unfold k0_pay4
  generalize k0_pay2 (F := Ideal) x = w at h
  pointwise
  rw [h]
  exact scale_eq _

theorem out1 (r : Fin 4096) (k : Fin 16384) : out0_1 x0 (ix2 r k) = specC x0 r k := by
  unfold out0_1
  frame_out
  rw [pay3_apply]

theorem out2 (r : Fin 4096) (l : Fin 128) : out0_2 x0 (ix2 r l) = specS x0 r := by
  unfold out0_2
  frame_out
  rw [pay4_apply]

end Cert.Val.Quant.Ref
-- ==== Proof.Quant.Runs.lean ====
module

public import proofs.«01_k».proof.Proof.Quant.Tile
public import proofs.«01_k».proof.Proof.Quant.RefVal
public import proofs.«01_k».proof.Proof.Gen.QuantiseIdeal.Points
public import proofs.«01_k».proof.Proof.Gen.QuantiseReferenceIdeal.Points

/-!
What the runs of the quantiser and of its reference leave in their result arrays.
-/

@[expose] public section

set_option maxRecDepth 16384

noncomputable section

namespace Cert.Val.Quant

open Idealize.ShloMosaic

/-- The results as arrays. -/
abbrev codes (x : (⟨2, ![4096, 16384]⟩ : Shape).Idx → EReal) (p : (⟨2, ![4096, 16384]⟩ : Shape).Idx) : EReal := specC x (p 0) (p 1)
abbrev scales (x : (⟨2, ![4096, 16384]⟩ : Shape).Idx → EReal) (p : (⟨2, ![4096, 128]⟩ : Shape).Idx) : EReal := specS x (p 0)

end Cert.Val.Quant

namespace Cert.Val.Quant.Ref

open Idealize.ShloMosaic Idealize.ShloMosaic.TcCoe Idealize.SL.Sem Cert.QuantiseReferenceIdeal Cert.QuantiseReferenceIdeal.Gen

variable (m : (ℓ : Loc nD τ sig) → Buf (Elt Ideal) ℓ) (ρ : Dev nD → PrngReg) (c : Dev nD)

/-- The operand. -/
abbrev X : (⟨2, ![4096, 16384]⟩ : Shape).Idx → EReal := m ((c : Thread nD τ).loc main_arg0)

theorem idx : ∀ t : Fin grid0.N, (∀ a, win0_0.index t a = 0) ∧ (∀ a, win0_1.index t a = 0) ∧ (∀ a, win0_2.index t a = 0) := by decide +kernel

theorem blk0 (t : Fin cfg0.N) : iblk m c 0 t = X m c := by funext y; blk_ext [iblk, V, idx t]

theorem arr1 : (dats m 0 c).arrAt 1 cfg0.N = codes (X m c) := by
  refine (dats m 0 c).arrAt_eq_of_covers 1 _ (by decide +kernel) fun t hf y => ?_
  blk_simp
  rw [after0_1, blk0]
  obtain ⟨r, k, rfl⟩ : ∃ r k, y = ix2 (n0 := 4096) (n1 := 16384) r k := ⟨y 0, y 1, eq_ix2 y⟩
  refine (out1 _ r k).trans ?_
  exact congrArg₂ (specC (X m c)) (Fin.ext (by blk_simp [idx t])) (Fin.ext (by blk_simp [idx t]))

theorem arr2 : (dats m 0 c).arrAt 2 cfg0.N = scales (X m c) := by
  refine (dats m 0 c).arrAt_eq_of_covers 2 _ (by decide +kernel) fun t hf y => ?_
  blk_simp
  rw [after0_2, blk0]
  obtain ⟨r, l, rfl⟩ : ∃ r l, y = ix2 (n0 := 4096) (n1 := 128) r l := ⟨y 0, y 1, eq_ix2 y⟩
  refine (out2 _ r l).trans ?_
  exact congrArg (specS (X m c)) (Fin.ext (by blk_simp [idx t]))

theorem run : θ_run defs (onTc (τ := τ) (main (F := Ideal))) ⟨m, fun _ => 0, ρ⟩ (fun r => ∀ c : Dev nD,
    r.2.mem ((c.tc : Thread nD τ).loc main_v0_0) = codes (X m c) ∧ r.2.mem ((c.tc : Thread nD τ).loc main_v0_1) = scales (X m c)) :=
  (θ_run defs _ _).mono (fun _ h c => ⟨(h.out_eq c 1).trans (arr1 m c), (h.out_eq c 2).trans (arr2 m c)⟩) (run_main m ρ)

end Cert.Val.Quant.Ref

namespace Cert.Val.Quant.Kern

open Idealize.ShloMosaic Idealize.ShloMosaic.TcCoe Idealize.SL.Sem Cert.QuantiseIdeal Cert.QuantiseIdeal.Gen

variable (m : (ℓ : Loc nD τ sig) → Buf (Elt Ideal) ℓ) (ρ : Dev nD → PrngReg) (c : Dev nD)

/-- The operand. -/
abbrev X : (⟨2, ![4096, 16384]⟩ : Shape).Idx → EReal := m ((c : Thread nD τ).loc main_arg0)

theorem idx : ∀ t : Fin grid0.N, win0_0.index t 0 = t.val ∧ win0_0.index t 1 = 0 ∧ win0_1.index t 0 = t.val ∧ win0_1.index t 1 = 0
    ∧ win0_2.index t 0 = t.val ∧ win0_2.index t 1 = 0 := by decide +kernel

theorem N_eq : cfg0.N = 32 := by decide +kernel

/-- Row `r` of row block `t`. -/
abbrev row (t : Fin cfg0.N) (r : Fin 128) : Fin 4096 := ⟨128 * t.val + r.val, by have := lt_of_lt_of_eq t.isLt N_eq; omega⟩

theorem blk0 (t : Fin cfg0.N) (r : Fin 128) (k : Fin 16384) : iblk m c 0 t (ix2 r k) = X m c (ix2 (row t r) k) := by
  blk_ext [iblk, V, idx t]

theorem rowMax_blk (t : Fin cfg0.N) (r : Fin 128) : rowMax (R := 128) (iblk m c 0 t) r = rowMax (X m c) (row t r) := by
  unfold rowMax
  simp only [blk0]

theorem specC_blk (t : Fin cfg0.N) (r : Fin 128) (k : Fin 16384) : specC (R := 128) (iblk m c 0 t) r k = specC (X m c) (row t r) k := by
  unfold specC
  rw [rowMax_blk, blk0]

theorem specS_blk (t : Fin cfg0.N) (r : Fin 128) : specS (R := 128) (iblk m c 0 t) r = specS (X m c) (row t r) := by
  unfold specS
  rw [rowMax_blk]

theorem arr1 : (dats m 0 c).arrAt 1 cfg0.N = codes (X m c) := by
  refine (dats m 0 c).arrAt_eq_of_covers 1 _ (by decide +kernel) fun t hf y => ?_
  blk_simp
  rw [after0_1]
  obtain ⟨r, k, rfl⟩ : ∃ r k, y = ix2 (n0 := 128) (n1 := 16384) r k := ⟨y 0, y 1, eq_ix2 y⟩
  refine ((out1 _ r k).trans (specC_blk m c t r k)).trans ?_
  exact congrArg₂ (specC (X m c)) (Fin.ext (by blk_simp [idx t]; show 128 * t.val + r.val = t.val * 128 + r.val; omega)) (Fin.ext (by blk_simp [idx t]))

theorem arr2 : (dats m 0 c).arrAt 2 cfg0.N = scales (X m c) := by
  refine (dats m 0 c).arrAt_eq_of_covers 2 _ (by decide +kernel) fun t hf y => ?_
  blk_simp
  rw [after0_2]
  obtain ⟨r, l, rfl⟩ : ∃ r l, y = ix2 (n0 := 128) (n1 := 128) r l := ⟨y 0, y 1, eq_ix2 y⟩
  refine ((out2 _ r l).trans (specS_blk m c t r)).trans ?_
  exact congrArg (specS (X m c)) (Fin.ext (by blk_simp [idx t]; show 128 * t.val + r.val = t.val * 128 + r.val; omega))

theorem run : θ_run defs (onTc (τ := τ) (main (F := Ideal))) ⟨m, fun _ => 0, ρ⟩ (fun r => ∀ c : Dev nD,
    r.2.mem ((c.tc : Thread nD τ).loc main_v0_0) = codes (X m c) ∧ r.2.mem ((c.tc : Thread nD τ).loc main_v0_1) = scales (X m c)) :=
  (θ_run defs _ _).mono (fun _ h c => ⟨(h.out_eq c 1).trans (arr1 m c), (h.out_eq c 2).trans (arr2 m c)⟩) (run_main m ρ)

end Cert.Val.Quant.Kern
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.Pre_pre
public import proofs.«01_k».proof.Proof.Mm.KFrame
public import proofs.«01_k».proof.Proof.Val.Runs
public import proofs.«01_k».proof.Proof.Quant.Runs
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Where the precondition holds, the arguments are of the kind the values are proved for. -/
theorem good (m : (ℓ : Loc Cert.KernelIdeal.nD Cert.KernelIdeal.τ Cert.KernelIdeal.sig) → Buf (Elt Ideal) ℓ) (h : Cert.Pre_KernelIdeal_pre m) (c : Dev Cert.KernelIdeal.nD) :
    Cert.Val.Kern.Good m c := Cert.Val.pre_bytes _ _ _ _ _ (h c)

/-- At the real numbers with infinities, kernel and reference leave the same three arrays. -/
theorem algebraic : Cert.algebraic_KernelIdeal_ReferenceIdeal_pre_pre := by
  intro m g m' g' hpre hagree
  refine ⟨fun c => (fun p : Cert.KernelIdeal.S4096x5120.Idx => Cert.Val.Kern.sY m c (p 0) (p 1)), fun c => (fun p : Cert.KernelIdeal.S4096x5120.Idx => Cert.Val.Kern.sC m c (p 0) (p 1)),
    fun c => (fun p : Cert.KernelIdeal.S4096x160.Idx => Cert.Val.Kern.sS m c (p 0) (p 1)), ?_, ?_⟩
  · refine (θ_run Cert.KernelIdeal.defs _ _).mono (fun r h c => ?_) (θ_run_and (Cert.Val.Kern.run m g (good m hpre)) (Cert.Val.Kern.frame g m))
    exact ⟨(h.1 c).1, (h.1 c).2.1, (h.1 c).2.2, h.2.1 c⟩
  · refine (θ_run Cert.ReferenceIdeal.defs _ _).mono (fun r h c => ?_) (θ_run_and (Cert.Val.Ref.run m' g') (Cert.ReferenceIdeal.Gen.frame m' g'))
    obtain ⟨e0, e1, e2, e3, e4⟩ := hagree c
    obtain ⟨r0, r1, r2⟩ := h.1 c
    unfold Cert.Val.Ref.X0 Cert.Val.Ref.X1 Cert.Val.Ref.X2 Cert.Val.Ref.X3 Cert.Val.Ref.X4 at r0 r1 r2
    have cong {α : Type} (f : (Cert.ReferenceIdeal.S4096x16384.Idx → EReal) → (Cert.ReferenceIdeal.S5120x16384.Idx → EReal) → (Cert.ReferenceIdeal.S5120x512.Idx → BitVec 8)
        → (Cert.ReferenceIdeal.S4096x5120.Idx → EReal) → (Cert.ReferenceIdeal.S4096x128.Idx → EReal) → α) {a a' b b' d d' k k' l l'}
        (h0 : a = a') (h1 : b = b') (h2 : d = d') (h3 : k = k') (h4 : l = l') : f a b d k l = f a' b' d' k' l' := by subst h0 h1 h2 h3 h4; rfl
    exact ⟨r0.trans (cong (fun a b d k l (p : Cert.ReferenceIdeal.S4096x5120.Idx) => Cert.Val.specY a b d k l (p 0) (p 1)) e0 e1 e2 e3 e4),
      r1.trans (cong (fun a b d k l (p : Cert.ReferenceIdeal.S4096x5120.Idx) => Cert.Val.specC a b d k l (p 0) (p 1)) e0 e1 e2 e3 e4),
      r2.trans (cong (fun a b d k l (p : Cert.ReferenceIdeal.S4096x160.Idx) => Cert.Val.specS a b d k l (p 0) (p 1)) e0 e1 e2 e3 e4), h.2.1 c⟩

/-- At the real numbers with infinities, quantiser and reference leave the same two arrays. -/
theorem algebraic_quantise : Cert.algebraic_QuantiseIdeal_QuantiseReferenceIdeal := by
  intro m g m' g' _ hagree
  refine ⟨fun c => Cert.Val.Quant.codes (Cert.Val.Quant.Kern.X m c), fun c => Cert.Val.Quant.scales (Cert.Val.Quant.Kern.X m c), ?_, ?_⟩
  · refine (θ_run Cert.QuantiseIdeal.defs _ _).mono (fun r h c => ?_) (θ_run_and (Cert.Val.Quant.Kern.run m g) (Cert.QuantiseIdeal.Gen.frame m g))
    exact ⟨(h.1 c).1, (h.1 c).2, h.2.1 c⟩
  · refine (θ_run Cert.QuantiseReferenceIdeal.defs _ _).mono (fun r h c => ?_) (θ_run_and (Cert.Val.Quant.Ref.run m' g') (Cert.QuantiseReferenceIdeal.Gen.frame m' g'))
    exact ⟨(h.1 c).1.trans (congrArg Cert.Val.Quant.codes (hagree c)), (h.1 c).2.trans (congrArg Cert.Val.Quant.scales (hagree c)), h.2.1 c⟩

theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts, Cert.Pre_pre.Gen.facts,
  fun m g _ => Cert.Kernel.Mm.frame m g,
  fun m g _ => Cert.Val.Kern.frame g m,
  fun m g _ => Cert.Val.Kern.frame g m,
  fun m g _ => Cert.ReferenceIdeal.Gen.frame m g,
  fun m g _ => Cert.ReferenceIdeal.Gen.frame m g,
  fun m g _ => Cert.Quantise.Gen.frame m g,
  fun m g _ => Cert.QuantiseIdeal.Gen.frame m g,
  fun m g _ => Cert.QuantiseReferenceIdeal.Gen.frame m g,
  IdealRules.bf16_pair.statement Cert.KernelIdeal.S512x128 Cert.KernelIdeal.S256x128,
  algebraic,
  IdealRules.bf16_pair.statement Cert.QuantiseIdeal.S128x128 Cert.QuantiseIdeal.S64x128,
  algebraic_quantise⟩

end Cert.Proof

end
